-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S256x512x8x8 : Shape := ⟨4, ![256, 512, 8, 8]⟩
abbrev S4096x16384 : Shape := ⟨2, ![4096, 16384]⟩
abbrev S4096 : Shape := ⟨1, ![4096]⟩
abbrev S1000x4096 : Shape := ⟨2, ![1000, 4096]⟩
abbrev S1000 : Shape := ⟨1, ![1000]⟩
abbrev S256x512 : Shape := ⟨2, ![256, 512]⟩
abbrev S256 : Shape := ⟨1, ![256]⟩
abbrev S_ : Shape := ⟨0, ![]⟩
abbrev S256x1 : Shape := ⟨2, ![256, 1]⟩

class Facts : Prop where
  bcast_S_S256x512 : S_.BroadcastsInDim S256x512 (![] : Fin 0 → Fin S256x512.rank)
  bcast_S_S256 : S_.BroadcastsInDim S256 (![] : Fin 0 → Fin S256.rank)
  bcast_S256_S256x1_0 : S256.BroadcastsInDim S256x1 (![0] : Fin 1 → Fin S256x1.rank)
  bcast_S256x1_S256x512_0_1 : S256x1.BroadcastsInDim S256x512 (![0, 1] : Fin 2 → Fin S256x512.rank)

variable [Facts]

def fn_part1 {F : FTy → Type} [FloatOps F] (main_v10 : IVec S256x512 1) (main_v17 : IVec S256x512 1) : IVec S256x512 1 :=
  let main_v18 : IVec S256x512 1 := andi main_v10 main_v17
  main_v18

def fn {F : FTy → Type} [FloatOps F] (main_arg0 : FVec F S256x512x8x8 .f32) (main_arg1 : FVec F S256x512x8x8 .f32) (main_arg2 : FVec F S4096x16384 .f32) (main_arg3 : FVec F S4096 .f32) (main_arg4 : FVec F S1000x4096 .f32) (main_arg5 : FVec F S1000 .f32) (main_arg6 : IVec S256x512 32) (main_arg7 : IVec S256x512 32) (main_arg8 : IVec S256 32) : IVec S256x512 1 :=
  let main_c : IVec S_ 32 := constantI S_ 32 0#32
  let main_v0 : IVec S256x512 32 := broadcastInDim S256x512 ![] bcast_S_S256x512 main_c
  let main_v1 : IVec S256x512 1 := cmpi .sge main_arg6 main_v0
  let main_c_0 : IVec S_ 32 := constantI S_ 32 16384#32
  let main_v2 : IVec S256x512 32 := broadcastInDim S256x512 ![] bcast_S_S256x512 main_c_0
  let main_v3 : IVec S256x512 1 := cmpi .slt main_arg6 main_v2
  let main_v4 : IVec S256x512 1 := andi main_v1 main_v3
  let main_c_1 : IVec S_ 32 := constantI S_ 32 0#32
  let main_v5 : IVec S256x512 32 := broadcastInDim S256x512 ![] bcast_S_S256x512 main_c_1
  let main_v6 : IVec S256x512 1 := cmpi .sge main_arg7 main_v5
  let main_v7 : IVec S256x512 1 := andi main_v4 main_v6
  let main_c_2 : IVec S_ 32 := constantI S_ 32 4096#32
  let main_v8 : IVec S256x512 32 := broadcastInDim S256x512 ![] bcast_S_S256x512 main_c_2
  let main_v9 : IVec S256x512 1 := cmpi .slt main_arg7 main_v8
  let main_v10 : IVec S256x512 1 := andi main_v7 main_v9
  let main_c_3 : IVec S_ 32 := constantI S_ 32 0#32
  let main_v11 : IVec S256 32 := broadcastInDim S256 ![] bcast_S_S256 main_c_3
  let main_v12 : IVec S256 1 := cmpi .sge main_arg8 main_v11
  let main_c_4 : IVec S_ 32 := constantI S_ 32 1000#32
  let main_v13 : IVec S256 32 := broadcastInDim S256 ![] bcast_S_S256 main_c_4
  let main_v14 : IVec S256 1 := cmpi .slt main_arg8 main_v13
  let main_v15 : IVec S256 1 := andi main_v12 main_v14
  let main_v16 : IVec S256x1 1 := broadcastInDim S256x1 ![0] bcast_S256_S256x1_0 main_v15
  let main_v17 : IVec S256x512 1 := broadcastInDim S256x512 ![0, 1] bcast_S256x1_S256x512_0_1 main_v16
  fn_part1 (F := F) main_v10 main_v17
-- ==== Kernel.lean ====
abbrev S256x512x8x8 : Shape := ⟨4, ![256, 512, 8, 8]⟩
abbrev S4096x16384 : Shape := ⟨2, ![4096, 16384]⟩
abbrev S4096 : Shape := ⟨1, ![4096]⟩
abbrev S1000x4096 : Shape := ⟨2, ![1000, 4096]⟩
abbrev S1000 : Shape := ⟨1, ![1000]⟩
abbrev S256x512 : Shape := ⟨2, ![256, 512]⟩
abbrev S256 : Shape := ⟨1, ![256]⟩
abbrev S256x512x64 : Shape := ⟨3, ![256, 512, 64]⟩
abbrev S256x64x512 : Shape := ⟨3, ![256, 64, 512]⟩
abbrev S32x8x512 : Shape := ⟨3, ![32, 8, 512]⟩
abbrev S256x32x512 : Shape := ⟨3, ![256, 32, 512]⟩
abbrev S256x32x128 : Shape := ⟨3, ![256, 32, 128]⟩
abbrev S8x64x512 : Shape := ⟨3, ![8, 64, 512]⟩
abbrev S1x8x512 : Shape := ⟨3, ![1, 8, 512]⟩
abbrev S8x32x512 : Shape := ⟨3, ![8, 32, 512]⟩
abbrev S8x32x128 : Shape := ⟨3, ![8, 32, 128]⟩
abbrev S8x512 : Shape := ⟨2, ![8, 512]⟩
abbrev S8x512x512 : Shape := ⟨3, ![8, 512, 512]⟩
abbrev S8x512x1 : Shape := ⟨3, ![8, 512, 1]⟩
abbrev S8x1x512 : Shape := ⟨3, ![8, 1, 512]⟩
abbrev S1x32x512 : Shape := ⟨3, ![1, 32, 512]⟩
abbrev S32x512 : Shape := ⟨2, ![32, 512]⟩
abbrev S1x512x512 : Shape := ⟨3, ![1, 512, 512]⟩
abbrev S512x512 : Shape := ⟨2, ![512, 512]⟩
abbrev S8x512x128 : Shape := ⟨3, ![8, 512, 128]⟩
abbrev S1x512x128 : Shape := ⟨3, ![1, 512, 128]⟩
abbrev S512x128 : Shape := ⟨2, ![512, 128]⟩
abbrev S32x128 : Shape := ⟨2, ![32, 128]⟩
abbrev S1x32x128 : Shape := ⟨3, ![1, 32, 128]⟩
abbrev S256x16384 : Shape := ⟨2, ![256, 16384]⟩
abbrev S256x4096 : Shape := ⟨2, ![256, 4096]⟩
abbrev S1x4096 : Shape := ⟨2, ![1, 4096]⟩
abbrev S256x2048 : Shape := ⟨2, ![256, 2048]⟩
abbrev S2048x2048 : Shape := ⟨2, ![2048, 2048]⟩
abbrev S1x2048 : Shape := ⟨2, ![1, 2048]⟩
abbrev S256x1 : Shape := ⟨2, ![256, 1]⟩
abbrev S256x128 : Shape := ⟨2, ![256, 128]⟩
abbrev S1x1000 : Shape := ⟨2, ![1, 1000]⟩
abbrev S256x1000 : Shape := ⟨2, ![256, 1000]⟩
abbrev S2x1x1 : Shape := ⟨3, ![2, 1, 1]⟩
abbrev S128x4096 : Shape := ⟨2, ![128, 4096]⟩
abbrev S128x128 : Shape := ⟨2, ![128, 128]⟩
abbrev S128x1000 : Shape := ⟨2, ![128, 1000]⟩
abbrev S1x1x1 : Shape := ⟨3, ![1, 1, 1]⟩
abbrev S128 : Shape := ⟨1, ![128]⟩
abbrev S128x1 : Shape := ⟨2, ![128, 1]⟩
abbrev S1 : Shape := ⟨1, ![1]⟩
abbrev S1x1 : Shape := ⟨2, ![1, 1]⟩
abbrev S_ : Shape := ⟨0, ![]⟩

abbrev nBuf : Space → Nat
  | .hbm => 36
  | .vmem => 35
  | .smem => 0
  | _ => 0

abbrev bufTy : (tb : Table) → Fin (tcTables nBuf tb) → BufTy
  | .hbm, ⟨0, _⟩ => ⟨S256x512x8x8, .f32⟩
  | .hbm, ⟨1, _⟩ => ⟨S256x512x8x8, .f32⟩
  | .hbm, ⟨2, _⟩ => ⟨S4096x16384, .f32⟩
  | .hbm, ⟨3, _⟩ => ⟨S4096, .f32⟩
  | .hbm, ⟨4, _⟩ => ⟨S1000x4096, .f32⟩
  | .hbm, ⟨5, _⟩ => ⟨S1000, .f32⟩
  | .hbm, ⟨6, _⟩ => ⟨S256x512, .i32⟩
  | .hbm, ⟨7, _⟩ => ⟨S256x512, .i32⟩
  | .hbm, ⟨8, _⟩ => ⟨S256, .i32⟩
  | .hbm, ⟨9, _⟩ => ⟨S256x512x64, .f32⟩
  | .hbm, ⟨10, _⟩ => ⟨S256x64x512, .f32⟩
  | .hbm, ⟨11, _⟩ => ⟨S256x512x64, .f32⟩
  | .hbm, ⟨12, _⟩ => ⟨S256x64x512, .f32⟩
  | .hbm, ⟨13, _⟩ => ⟨S32x8x512, .i32⟩
  | .hbm, ⟨14, _⟩ => ⟨S32x8x512, .i32⟩
  | .hbm, ⟨15, _⟩ => ⟨S256x32x512, .bf16⟩
  | .hbm, ⟨16, _⟩ => ⟨S256x32x128, .f32⟩
  | .hbm, ⟨17, _⟩ => ⟨S256x16384, .bf16⟩
  | .hbm, ⟨18, _⟩ => ⟨S256x4096, .f32⟩
  | .hbm, ⟨19, _⟩ => ⟨S1x4096, .f32⟩
  | .hbm, ⟨20, _⟩ => ⟨S256x4096, .f32⟩
  | .hbm, ⟨21, _⟩ => ⟨S256x1, .i32⟩
  | .hbm, ⟨22, _⟩ => ⟨S256x128, .i32⟩
  | .hbm, ⟨23, _⟩ => ⟨S1x1000, .f32⟩
  | .hbm, ⟨24, _⟩ => ⟨S256x1000, .f32⟩
  | .hbm, ⟨25, _⟩ => ⟨S2x1x1, .f32⟩
  | .hbm, ⟨26, _⟩ => ⟨S2x1x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S8x64x512, .f32⟩
  | .local _ .vmem, ⟨1, _⟩ => ⟨S8x64x512, .f32⟩
  | .local _ .vmem, ⟨2, _⟩ => ⟨S8x64x512, .f32⟩
  | .local _ .vmem, ⟨3, _⟩ => ⟨S8x64x512, .f32⟩
  | .local _ .vmem, ⟨4, _⟩ => ⟨S1x8x512, .i32⟩
  | .local _ .vmem, ⟨5, _⟩ => ⟨S1x8x512, .i32⟩
  | .local _ .vmem, ⟨6, _⟩ => ⟨S1x8x512, .i32⟩
  | .local _ .vmem, ⟨7, _⟩ => ⟨S1x8x512, .i32⟩
  | .local _ .vmem, ⟨8, _⟩ => ⟨S8x32x512, .bf16⟩
  | .local _ .vmem, ⟨9, _⟩ => ⟨S8x32x512, .bf16⟩
  | .local _ .vmem, ⟨10, _⟩ => ⟨S8x32x128, .f32⟩
  | .local _ .vmem, ⟨11, _⟩ => ⟨S8x32x128, .f32⟩
  | .local _ .vmem, ⟨12, _⟩ => ⟨S256x2048, .bf16⟩
  | .local _ .vmem, ⟨13, _⟩ => ⟨S256x2048, .bf16⟩
  | .local _ .vmem, ⟨14, _⟩ => ⟨S2048x2048, .f32⟩
  | .local _ .vmem, ⟨15, _⟩ => ⟨S2048x2048, .f32⟩
  | .local _ .vmem, ⟨16, _⟩ => ⟨S1x2048, .f32⟩
  | .local _ .vmem, ⟨17, _⟩ => ⟨S1x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S128x4096, .f32⟩
  | .local _ .vmem, ⟨22, _⟩ => ⟨S128x4096, .f32⟩
  | .local _ .vmem, ⟨23, _⟩ => ⟨S128x4096, .f32⟩
  | .local _ .vmem, ⟨24, _⟩ => ⟨S128x4096, .f32⟩
  | .local _ .vmem, ⟨25, _⟩ => ⟨S1000x4096, .f32⟩
  | .local _ .vmem, ⟨26, _⟩ => ⟨S1x1000, .f32⟩
  | .local _ .vmem, ⟨27, _⟩ => ⟨S128x128, .i32⟩
  | .local _ .vmem, ⟨28, _⟩ => ⟨S128x128, .i32⟩
  | .local _ .vmem, ⟨29, _⟩ => ⟨S128x1000, .f32⟩
  | .local _ .vmem, ⟨30, _⟩ => ⟨S128x1000, .f32⟩
  | .local _ .vmem, ⟨31, _⟩ => ⟨S1x1x1, .f32⟩
  | .local _ .vmem, ⟨32, _⟩ => ⟨S1x1x1, .f32⟩
  | .local _ .vmem, ⟨33, _⟩ => ⟨S1x1x1, .f32⟩
  | .local _ .vmem, ⟨34, _⟩ => ⟨S1x1x1, .f32⟩
  | _, _ => ⟨S256x512x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_cst : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg7_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 8], ![false, false]⟩

def k1_cond3 (i : grid1.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S128x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1000x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S128x128 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x1000 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S256x512x8x8 : Shape := ⟨4, ![256, 512, 8, 8]⟩
abbrev S4096x16384 : Shape := ⟨2, ![4096, 16384]⟩
abbrev S4096 : Shape := ⟨1, ![4096]⟩
abbrev S1000x4096 : Shape := ⟨2, ![1000, 4096]⟩
abbrev S1000 : Shape := ⟨1, ![1000]⟩
abbrev S256x512 : Shape := ⟨2, ![256, 512]⟩
abbrev S256 : Shape := ⟨1, ![256]⟩
abbrev S_ : Shape := ⟨0, ![]⟩
abbrev S256x1 : Shape := ⟨2, ![256, 1]⟩
abbrev S256x16384 : Shape := ⟨2, ![256, 16384]⟩
abbrev S256x512x1 : Shape := ⟨3, ![256, 512, 1]⟩
abbrev S256x512x2 : Shape := ⟨3, ![256, 512, 2]⟩
abbrev S256x4096 : Shape := ⟨2, ![256, 4096]⟩
abbrev S16384x4096 : Shape := ⟨2, ![16384, 4096]⟩
abbrev S1x4096 : Shape := ⟨2, ![1, 4096]⟩
abbrev S4096x1000 : Shape := ⟨2, ![4096, 1000]⟩
abbrev S256x1000 : Shape := ⟨2, ![256, 1000]⟩
abbrev S1x1000 : Shape := ⟨2, ![1, 1000]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 152
  | .vmem => 0
  | .smem => 0
  | _ => 0

abbrev hbmTy0_0 (i : Nat) : BufTy := match i % 128 with
  | 0 => ⟨S256x512x8x8, .f32⟩
  | 1 => ⟨S256x512x8x8, .f32⟩
  | 2 => ⟨S4096x16384, .f32⟩
  | 3 => ⟨S4096, .f32⟩
  | 4 => ⟨S1000x4096, .f32⟩
  | 5 => ⟨S1000, .f32⟩
  | 6 => ⟨S256x512, .i32⟩
  | 7 => ⟨S256x512, .i32⟩
  | 8 => ⟨S256, .i32⟩
  | 9 => ⟨S_, .f32⟩
  | 10 => ⟨S256x512, .f32⟩
  | 11 => ⟨S_, .f32⟩
  | 12 => ⟨S256x512, .f32⟩
  | 13 => ⟨S256x512, .f32⟩
  | 14 => ⟨S256, .i32⟩
  | 15 => ⟨S256x1, .i32⟩
  | 16 => ⟨S_, .f32⟩
  | 17 => ⟨S256x16384, .f32⟩
  | 18 => ⟨S_, .i32⟩
  | 19 => ⟨S256x1, .i32⟩
  | 20 => ⟨S256x1, .i1⟩
  | 21 => ⟨S_, .i32⟩
  | 22 => ⟨S256x1, .i32⟩
  | 23 => ⟨S256x1, .i32⟩
  | 24 => ⟨S256x1, .i32⟩
  | 25 => ⟨S_, .i32⟩
  | 26 => ⟨S256x512, .i32⟩
  | 27 => ⟨S256x512, .i1⟩
  | 28 => ⟨S_, .i32⟩
  | 29 => ⟨S256x512, .i32⟩
  | 30 => ⟨S256x512, .i32⟩
  | 31 => ⟨S256x512, .i32⟩
  | 32 => ⟨S256x512, .i32⟩
  | 33 => ⟨S256x512x1, .i32⟩
  | 34 => ⟨S256x512x1, .i32⟩
  | 35 => ⟨S256x512x2, .i32⟩
  | 36 => ⟨S256x16384, .f32⟩
  | 37 => ⟨S_, .f32⟩
  | 38 => ⟨S256x512, .f32⟩
  | 39 => ⟨S_, .f32⟩
  | 40 => ⟨S256x512, .f32⟩
  | 41 => ⟨S256x512, .f32⟩
  | 42 => ⟨S256, .i32⟩
  | 43 => ⟨S256x1, .i32⟩
  | 44 => ⟨S_, .f32⟩
  | 45 => ⟨S256x4096, .f32⟩
  | 46 => ⟨S_, .i32⟩
  | 47 => ⟨S256x1, .i32⟩
  | 48 => ⟨S256x1, .i1⟩
  | 49 => ⟨S_, .i32⟩
  | 50 => ⟨S256x1, .i32⟩
  | 51 => ⟨S256x1, .i32⟩
  | 52 => ⟨S256x1, .i32⟩
  | 53 => ⟨S_, .i32⟩
  | 54 => ⟨S256x512, .i32⟩
  | 55 => ⟨S256x512, .i1⟩
  | 56 => ⟨S_, .i32⟩
  | 57 => ⟨S256x512, .i32⟩
  | 58 => ⟨S256x512, .i32⟩
  | 59 => ⟨S256x512, .i32⟩
  | 60 => ⟨S256x512, .i32⟩
  | 61 => ⟨S256x512x1, .i32⟩
  | 62 => ⟨S256x512x1, .i32⟩
  | 63 => ⟨S256x512x2, .i32⟩
  | 64 => ⟨S256x4096, .f32⟩
  | 65 => ⟨S16384x4096, .f32⟩
  | 66 => ⟨S256x4096, .f32⟩
  | 67 => ⟨S1x4096, .f32⟩
  | 68 => ⟨S256x4096, .f32⟩
  | 69 => ⟨S256x4096, .f32⟩
  | 70 => ⟨S256x4096, .f32⟩
  | 71 => ⟨S256x4096, .f32⟩
  | 72 => ⟨S_, .f32⟩
  | 73 => ⟨S256x4096, .f32⟩
  | 74 => ⟨S256x4096, .f32⟩
  | 75 => ⟨S_, .f32⟩
  | 76 => ⟨S256x4096, .f32⟩
  | 77 => ⟨S256x4096, .f32⟩
  | 78 => ⟨S_, .f32⟩
  | 79 => ⟨S256x4096, .f32⟩
  | 80 => ⟨S256x4096, .f32⟩
  | 81 => ⟨S256x4096, .f32⟩
  | 82 => ⟨S256x4096, .f32⟩
  | 83 => ⟨S256x4096, .i1⟩
  | 84 => ⟨S256x4096, .f32⟩
  | 85 => ⟨S256x4096, .f32⟩
  | 86 => ⟨S256x4096, .f32⟩
  | 87 => ⟨S256x4096, .f32⟩
  | 88 => ⟨S256x4096, .f32⟩
  | 89 => ⟨S256x4096, .f32⟩
  | 90 => ⟨S256x4096, .f32⟩
  | 91 => ⟨S256x4096, .f32⟩
  | 92 => ⟨S256x4096, .f32⟩
  | 93 => ⟨S256x4096, .f32⟩
  | 94 => ⟨S_, .f32⟩
  | 95 => ⟨S_, .f32⟩
  | 96 => ⟨S_, .f32⟩
  | 97 => ⟨S_, .f32⟩
  | 98 => ⟨S4096x1000, .f32⟩
  | 99 => ⟨S256x1000, .f32⟩
  | 100 => ⟨S1x1000, .f32⟩
  | 101 => ⟨S256x1000, .f32⟩
  | 102 => ⟨S256x1000, .f32⟩
  | 103 => ⟨S256x1000, .f32⟩
  | 104 => ⟨S256x1000, .f32⟩
  | 105 => ⟨S_, .f32⟩
  | 106 => ⟨S256x1000, .f32⟩
  | 107 => ⟨S256x1000, .f32⟩
  | 108 => ⟨S_, .f32⟩
  | 109 => ⟨S256x1000, .f32⟩
  | 110 => ⟨S256x1000, .f32⟩
  | 111 => ⟨S256x1, .i32⟩
  | 112 => ⟨S_, .i32⟩
  | 113 => ⟨S256x1, .i32⟩
  | 114 => ⟨S256x1, .i1⟩
  | 115 => ⟨S_, .i32⟩
  | 116 => ⟨S256x1, .i32⟩
  | 117 => ⟨S256x1, .i32⟩
  | 118 => ⟨S256x1, .i32⟩
  | 119 => ⟨S256x1x1, .i32⟩
  | 120 => ⟨S1, .i32⟩
  | 121 => ⟨S_, .i32⟩
  | 122 => ⟨S256x1x1, .i32⟩
  | 123 => ⟨S256x1x1, .i1⟩
  | 124 => ⟨S1x1x1, .i32⟩
  | 125 => ⟨S256x1x1, .i32⟩
  | 126 => ⟨S256x1x1, .i1⟩
  | 127 => ⟨S256x1x1, .i1⟩
  | _ => ⟨S256x512x8x8, .f32⟩

abbrev hbmTy0_1 (i : Nat) : BufTy := match i % 128 with
  | 0 => ⟨S_, .i1⟩
  | 1 => ⟨S256x1, .i1⟩
  | 2 => ⟨S256x1, .f32⟩
  | 3 => ⟨S_, .f32⟩
  | 4 => ⟨S256x1, .f32⟩
  | 5 => ⟨S256x1, .f32⟩
  | 6 => ⟨S256, .f32⟩
  | 7 => ⟨S_, .f32⟩
  | 8 => ⟨S256, .f32⟩
  | 9 => ⟨S256x1, .f32⟩
  | 10 => ⟨S256x1000, .f32⟩
  | 11 => ⟨S256x1000, .f32⟩
  | 12 => ⟨S256x1000, .f32⟩
  | 13 => ⟨S_, .f32⟩
  | 14 => ⟨S256, .f32⟩
  | 15 => ⟨S256, .f32⟩
  | 16 => ⟨S256, .f32⟩
  | 17 => ⟨S256, .f32⟩
  | 18 => ⟨S256, .f32⟩
  | 19 => ⟨S_, .f32⟩
  | 20 => ⟨S_, .f32⟩
  | 21 => ⟨S_, .f32⟩
  | 22 => ⟨S_, .f32⟩
  | 23 => ⟨S_, .f32⟩
  | _ => ⟨S256x512x8x8, .f32⟩

abbrev hbmTy (i : Nat) : BufTy := match i / 128 with
  | 0 => hbmTy0_0 i
  | 1 => hbmTy0_1 i
  | _ => ⟨S256x512x8x8, .f32⟩

abbrev bufTy : (tb : Table) → Fin (tcTables nBuf tb) → BufTy
  | .hbm, ⟨i, _⟩ => hbmTy i
  | _, _ => ⟨S256x512x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_c_8 : Ref sig .tc := ⟨.hbm, 46, rfl⟩
abbrev main_v27 : Ref sig .tc := ⟨.hbm, 47, rfl⟩
abbrev main_v28 : Ref sig .tc := ⟨.hbm, 48, rfl⟩
abbrev main_c_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_10 : Ref sig .tc := ⟨.hbm, 53, rfl⟩
abbrev main_v32 : Ref sig .tc := ⟨.hbm, 54, rfl⟩
abbrev main_v33 : Ref sig .tc := ⟨.hbm, 55, rfl⟩
abbrev main_c_11 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_v50 : Ref sig .tc := ⟨.hbm, 74, rfl⟩
abbrev main_cst_13 : Ref sig .tc := ⟨.hbm, 75, rfl⟩
abbrev main_v51 : Ref sig .tc := ⟨.hbm, 76, rfl⟩
abbrev main_v52 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_14 : Ref sig .tc := ⟨.hbm, 94, rfl⟩
abbrev main_v56 : Ref sig .tc := ⟨.hbm, 95, rfl⟩
abbrev main_cst_15 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_16 : Ref sig .tc := ⟨.hbm, 105, rfl⟩
abbrev main_v65 : Ref sig .tc := ⟨.hbm, 106, rfl⟩
abbrev main_v66 : Ref sig .tc := ⟨.hbm, 107, rfl⟩
abbrev main_cst_17 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_call1_c : Ref sig .tc := ⟨.hbm, 112, rfl⟩
abbrev main_call1_v0 : Ref sig .tc := ⟨.hbm, 113, rfl⟩
abbrev main_call1_v1 : Ref sig .tc := ⟨.hbm, 114, rfl⟩
abbrev main_call1_c_0 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_v5 : Ref sig .tc := ⟨.hbm, 119, rfl⟩
abbrev main_call1_c_1 : Ref sig .tc := ⟨.hbm, 120, rfl⟩
abbrev main_call1_c_2 : Ref sig .tc := ⟨.hbm, 121, rfl⟩
abbrev main_call1_v6 : Ref sig .tc := ⟨.hbm, 122, rfl⟩
abbrev main_call1_v7 : Ref sig .tc := ⟨.hbm, 123, rfl⟩
abbrev main_call1_v8 : Ref sig .tc := ⟨.hbm, 124, rfl⟩
abbrev main_call1_v9 : Ref sig .tc := ⟨.hbm, 125, rfl⟩
abbrev main_call1_v10 : Ref sig .tc := ⟨.hbm, 126, rfl⟩
abbrev main_call1_v11 : Ref sig .tc := ⟨.hbm, 127, rfl⟩
abbrev main_call1_c_3 : Ref sig .tc := ⟨.hbm, 128, rfl⟩
abbrev main_call1_v12 : Ref sig .tc := ⟨.hbm, 129, rfl⟩
abbrev main_call1_v13 : Ref sig .tc := ⟨.hbm, 130, rfl⟩
abbrev main_call1_cst : Ref sig .tc := ⟨.hbm, 131, rfl⟩
abbrev main_call1_v14 : Ref sig .tc := ⟨.hbm, 132, rfl⟩
abbrev main_v70 : Ref sig .tc := ⟨.hbm, 133, rfl⟩
abbrev main_v71 : Ref sig .tc := ⟨.hbm, 134, rfl⟩
abbrev main_cst_18 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_cst_19 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_cst_20 : Ref sig .tc := ⟨.hbm, 147, rfl⟩
abbrev main_v82 : Ref sig .tc := ⟨.hbm, 148, rfl⟩
abbrev main_cst_21 : Ref sig .tc := ⟨.hbm, 149, rfl⟩
abbrev main_v83 : Ref sig .tc := ⟨.hbm, 150, rfl⟩
abbrev main_v84 : Ref sig .tc := ⟨.hbm, 151, rfl⟩

abbrev nD : Nat := 1
abbrev τ : Topo := Topo.v7x

variable {F : FTy → Type} [FloatOps F]
-- ==== Proof.Run.Region0.lean ====
/- The first call, which builds the two scattered tables: what its body leaves at every grid point, stated over the
   contents the call finds. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- deciding that the stores tile a block recurses once per coordinate of its long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers as the call finds them
variable (V : (c : Dev nD) → (b : Ref sig .tc) → Buf (Elt F) ((c : Thread nD τ).loc b))

/-- Window `w`'s block at a point, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S8x64x512 := Rect.unit (s := S8x64x512) ![0, 0, 0] S8x64x512.size inb_S8x64x512_S8x64x512_0_0_0
abbrev r0_1 : Rect S1x8x512 := Rect.unit (s := S1x8x512) ![0, 0, 0] S1x8x512.size inb_S1x8x512_S1x8x512_0_0_0
abbrev r0_2 : Rect S8x32x512 := Rect.unit (s := S8x32x512) ![0, 0, 0] S1x32x512.size inb_S8x32x512_S1x32x512_0_0_0
abbrev r0_3 : Rect S8x32x512 := Rect.unit (s := S8x32x512) ![1, 0, 0] S1x32x512.size inb_S8x32x512_S1x32x512_1_0_0
abbrev r0_4 : Rect S8x32x512 := Rect.unit (s := S8x32x512) ![2, 0, 0] S1x32x512.size inb_S8x32x512_S1x32x512_2_0_0
abbrev r0_5 : Rect S8x32x512 := Rect.unit (s := S8x32x512) ![3, 0, 0] S1x32x512.size inb_S8x32x512_S1x32x512_3_0_0
abbrev r0_6 : Rect S8x32x512 := Rect.unit (s := S8x32x512) ![4, 0, 0] S1x32x512.size inb_S8x32x512_S1x32x512_4_0_0
abbrev r0_7 : Rect S8x32x512 := Rect.unit (s := S8x32x512) ![5, 0, 0] S1x32x512.size inb_S8x32x512_S1x32x512_5_0_0
abbrev r0_8 : Rect S8x32x512 := Rect.unit (s := S8x32x512) ![6, 0, 0] S1x32x512.size inb_S8x32x512_S1x32x512_6_0_0
abbrev r0_9 : Rect S8x32x512 := Rect.unit (s := S8x32x512) ![7, 0, 0] S1x32x512.size inb_S8x32x512_S1x32x512_7_0_0
abbrev r0_10 : Rect S8x32x128 := Rect.unit (s := S8x32x128) ![0, 0, 0] S1x32x128.size inb_S8x32x128_S1x32x128_0_0_0
abbrev r0_11 : Rect S8x32x128 := Rect.unit (s := S8x32x128) ![1, 0, 0] S1x32x128.size inb_S8x32x128_S1x32x128_1_0_0
abbrev r0_12 : Rect S8x32x128 := Rect.unit (s := S8x32x128) ![2, 0, 0] S1x32x128.size inb_S8x32x128_S1x32x128_2_0_0
abbrev r0_13 : Rect S8x32x128 := Rect.unit (s := S8x32x128) ![3, 0, 0] S1x32x128.size inb_S8x32x128_S1x32x128_3_0_0
abbrev r0_14 : Rect S8x32x128 := Rect.unit (s := S8x32x128) ![4, 0, 0] S1x32x128.size inb_S8x32x128_S1x32x128_4_0_0
abbrev r0_15 : Rect S8x32x128 := Rect.unit (s := S8x32x128) ![5, 0, 0] S1x32x128.size inb_S8x32x128_S1x32x128_5_0_0
abbrev r0_16 : Rect S8x32x128 := Rect.unit (s := S8x32x128) ![6, 0, 0] S1x32x128.size inb_S8x32x128_S1x32x128_6_0_0
abbrev r0_17 : Rect S8x32x128 := Rect.unit (s := S8x32x128) ![7, 0, 0] S1x32x128.size inb_S8x32x128_S1x32x128_7_0_0

/-- The rows of the first table's factor: each feature, kept where no later feature goes to its column, in the row its column's
    high part names. -/
def rows0 (x0 : Vec F S8x64x512 .f32) (x2 : Vec F S1x8x512 .i32) : FVec F S8x32x512 .f32 :=
  k0_pay12 (k0_pay5 (View.ld x2 r0_1)) (k0_pay8 (View.ld x0 r0_0) (View.ld x2 r0_1))
/-- Lane numbers, against which the low part of a column is compared. -/
def lanes0 : IVec S8x512x512 32 := iota .tc S8x512x512 32 [2] iota_S8x512x512_d2_w32
/-- The low part of each column of the first table, repeated along the lanes. -/
def low0 (x2 : Vec F S1x8x512 .i32) : IVec S8x512x512 32 := k0_pay13 (k0_pay5 (View.ld x2 r0_1))
/-- The other factor of the first table: one where the lane is the column's low part. -/
def cols0 (x2 : Vec F S1x8x512 .i32) : FVec F S8x512x512 .f32 := k0_pay14 lanes0 (low0 x2)
/-- The second table's features, kept where no later feature goes to their column. -/
def kept1 (x1 : Vec F S8x64x512 .f32) (x3 : Vec F S1x8x512 .i32) : FVec F S8x512 .f32 :=
  k0_pay10 (k0_pay4 (View.ld x1 r0_0)) (k0_pay9 (View.ld x3 r0_1)) (Scalar.ofBits .f32 0x3F800000#32)
/-- The rows of the second table's factor. -/
def rows1 (x1 : Vec F S8x64x512 .f32) (x3 : Vec F S1x8x512 .i32) : FVec F S8x32x512 .f32 :=
  k0_pay26 (k0_pay6 (View.ld x3 r0_1)) (kept1 x1 x3) 128#32 k0_pay24
/-- The other factor of the second table. -/
def cols1 (x3 : Vec F S1x8x512 .i32) : FVec F S8x512x128 .f32 :=
  k0_pay27 (k0_pay6 (View.ld x3 r0_1)) 128#32 k0_pay24

/-- The first table's block after the body: its eight stores, the last first. -/
def out0_4 (x0 : Vec F S8x64x512 .f32) (x1 : Vec F S8x64x512 .f32) (x2 : Vec F S1x8x512 .i32) (x3 : Vec F S1x8x512 .i32) : Vec F S8x32x512 .bf16 :=
  View.canon [⟨r0_9, k0_pay23 (rows0 x0 x2) (cols0 x2)⟩,
    ⟨r0_8, k0_pay22 (rows0 x0 x2) (cols0 x2)⟩,
    ⟨r0_7, k0_pay21 (rows0 x0 x2) (cols0 x2)⟩,
    ⟨r0_6, k0_pay20 (rows0 x0 x2) (cols0 x2)⟩,
    ⟨r0_5, k0_pay19 (k0_pay18 (rows0 x0 x2) lanes0 (low0 x2))⟩,
    ⟨r0_4, k0_pay17 (rows0 x0 x2) lanes0 (low0 x2)⟩,
    ⟨r0_3, k0_pay16 (rows0 x0 x2) lanes0 (low0 x2)⟩,
    ⟨r0_2, k0_pay15 (rows0 x0 x2) lanes0 (low0 x2)⟩]

/-- The eight stores cover the block. -/
theorem cover0_4 (p0 : Vec F S1x32x512 .bf16) (p1 : Vec F S1x32x512 .bf16) (p2 : Vec F S1x32x512 .bf16) (p3 : Vec F S1x32x512 .bf16) (p4 : Vec F S1x32x512 .bf16) (p5 : Vec F S1x32x512 .bf16) (p6 : Vec F S1x32x512 .bf16) (p7 : Vec F S1x32x512 .bf16) (y : S8x32x512.Idx) :
    ∃ pc ∈ ([⟨r0_9, p0⟩, ⟨r0_8, p1⟩, ⟨r0_7, p2⟩, ⟨r0_6, p3⟩, ⟨r0_5, p4⟩, ⟨r0_4, p5⟩, ⟨r0_3, p6⟩, ⟨r0_2, p7⟩] : List (View.Piece (Elt F) S8x32x512 .bf16)), y ∈ pc.1.set :=
  View.cover_of_tiled [⟨r0_9, p0⟩, ⟨r0_8, p1⟩, ⟨r0_7, p2⟩, ⟨r0_6, p3⟩, ⟨r0_5, p4⟩, ⟨r0_4, p5⟩, ⟨r0_3, p6⟩, ⟨r0_2, p7⟩] S1x32x512.size (by rfl) y

/-- The second table's block after the body: its eight stores, the last first. -/
def out0_5 (x0 : Vec F S8x64x512 .f32) (x1 : Vec F S8x64x512 .f32) (x2 : Vec F S1x8x512 .i32) (x3 : Vec F S1x8x512 .i32) : Vec F S8x32x128 .f32 :=
  View.canon [⟨r0_17, k0_pay3 (rows1 x1 x3) (cols1 x3)⟩,
    ⟨r0_16, k0_pay2 (rows1 x1 x3) (cols1 x3)⟩,
    ⟨r0_15, k0_pay1 (k0_pay34 (rows1 x1 x3)) (k0_pay35 (cols1 x3))⟩,
    ⟨r0_14, k0_pay33 (rows1 x1 x3) (cols1 x3)⟩,
    ⟨r0_13, k0_pay32 (rows1 x1 x3) (cols1 x3)⟩,
    ⟨r0_12, k0_pay31 (rows1 x1 x3) (cols1 x3)⟩,
    ⟨r0_11, k0_pay30 (rows1 x1 x3) (cols1 x3)⟩,
    ⟨r0_10, k0_pay29 (k0_pay28 (k0_pay6 (View.ld x3 r0_1)) (kept1 x1 x3) 128#32 k0_pay24)⟩]

/-- The eight stores cover the block. -/
theorem cover0_5 (p0 : Vec F S1x32x128 .f32) (p1 : Vec F S1x32x128 .f32) (p2 : Vec F S1x32x128 .f32) (p3 : Vec F S1x32x128 .f32) (p4 : Vec F S1x32x128 .f32) (p5 : Vec F S1x32x128 .f32) (p6 : Vec F S1x32x128 .f32) (p7 : Vec F S1x32x128 .f32) (y : S8x32x128.Idx) :
    ∃ pc ∈ ([⟨r0_17, p0⟩, ⟨r0_16, p1⟩, ⟨r0_15, p2⟩, ⟨r0_14, p3⟩, ⟨r0_13, p4⟩, ⟨r0_12, p5⟩, ⟨r0_11, p6⟩, ⟨r0_10, p7⟩] : List (View.Piece (Elt F) S8x32x128 .f32)), y ∈ pc.1.set :=
  View.cover_of_tiled [⟨r0_17, p0⟩, ⟨r0_16, p1⟩, ⟨r0_15, p2⟩, ⟨r0_14, p3⟩, ⟨r0_13, p4⟩, ⟨r0_12, p5⟩, ⟨r0_11, p6⟩, ⟨r0_10, p7⟩] S1x32x128.size (by rfl) y

set_option maxHeartbeats 1000000 in
/-- The body on any staging buffers: it leaves the inputs as they were and each output at the value named above. -/
theorem sound_kernel0 (c : Dev nD) (E : Set ℕ) (i : grid0.Coords) (arg1 : Memref sig .tc .vmem S8x64x512 .f32) (harg1 : arg1.IsWhole) (arg2 : Memref sig .tc .vmem S8x64x512 .f32) (harg2 : arg2.IsWhole) (arg3 : Memref sig .tc .vmem S1x8x512 .i32) (harg3 : arg3.IsWhole) (arg4 : Memref sig .tc .vmem S1x8x512 .i32) (harg4 : arg4.IsWhole) (arg5 : Memref sig .tc .vmem S8x32x512 .bf16) (harg5 : arg5.IsWhole) (arg6 : Memref sig .tc .vmem S8x32x128 .f32) (harg6 : arg6.IsWhole)
    (x0 : Vec F S8x64x512 .f32) (x1 : Vec F S8x64x512 .f32) (x2 : Vec F S1x8x512 .i32) (x3 : Vec F S1x8x512 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3)) -∗ K ⟨⟩))
      ⊢ wp frame (wpE (defs₀ (F := F)) Variants.none c none) E (cc0__scatter_build_kernel i arg1 harg1 arg2 harg2 arg3 harg3 arg4 harg4 arg5 harg5 arg6 harg6) K := by
  simp only [cc0__scatter_build_kernel_eq_skeleton]; unfold cc0__scatter_build_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _ _ _ _ _ _ _ _)).trans ?_
    rfl
  iexists _; isplitr
  swap; · iexact H5
  ipureintro
  refine (View.read_writes_eq_canon _ _ _ (cover0_5 _ _ _ _ _ _ _ _)).trans ?_
  rfl

/-- The call's proof data: the arrays as found, what the body leaves in every window, and nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

/-- The proof data start from the arrays as found. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is entered with at a point, window by window. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point meets that. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at a point is the body on that point's staging buffers. -/
theorem defs₀_row0 (t : Fin cfg0.N) :
    defs₀ (F := F) .tc cfg0.body (cfg0.bodyArgs t (cfg0.slots t)) = bodyAt0 t := by
  unfold defs₀; rw [Defs.onTc_tc]

/-- The obligation the pipeline asks of the body, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.Run.Region1.lean ====
/- The second call, the first layer's product accumulated over eight positions of the contraction: what its body leaves at
   every grid point, stated over the contents the call finds. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

-- deciding that the stores tile a block recurses once per coordinate of its long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers as the call finds them
variable (V : (c : Dev nD) → (b : Ref sig .tc) → Buf (Elt F) ((c : Thread nD τ).loc b))

/-- Window `w`'s block at a point, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The position in the contraction is the first. -/
abbrev first1 (i : grid1.Coords) : Prop := (Scalar.cmpi .ne (Scalar.extui (Scalar.cmpi .eq (BitVec.ofNat 32 (i 1).val) 0#32)) 0#32) = 1#1
/-- The position in the contraction is not the first. -/
abbrev later1 (i : grid1.Coords) : Prop := (Scalar.cmpi .ne (Scalar.extui (Scalar.cmpi .sgt (BitVec.ofNat 32 (i 1).val) 0#32)) 0#32) = 1#1
/-- The position in the contraction is the last. -/
abbrev last1 (i : grid1.Coords) : Prop := k1_cond3 i = 1#1
theorem first1_iff : ∀ t : Fin cfg1.N, first1 (grid1.coords t) ↔ t.val % 8 = 0 :=
  (by decide +kernel : ∀ t : Fin grid1.N, first1 (grid1.coords t) ↔ t.val % 8 = 0)
theorem later1_iff : ∀ t : Fin cfg1.N, later1 (grid1.coords t) ↔ 1 ≤ t.val % 8 :=
  (by decide +kernel : ∀ t : Fin grid1.N, later1 (grid1.coords t) ↔ 1 ≤ t.val % 8)
theorem last1_iff : ∀ t : Fin cfg1.N, last1 (grid1.coords t) ↔ t.val % 8 = 7 :=
  (by decide +kernel : ∀ t : Fin grid1.N, last1 (grid1.coords t) ↔ t.val % 8 = 7)
/-- Away from the last position the output window is idle and is not written back. -/
theorem idle1_3 : ∀ t : Fin cfg1.N, t.val % 8 ≠ 7 → cfg1.idle 3 (grid1.coords t) = true ∧ (cfg1.win 3).flush t = false := by decide +kernel
theorem live1_3 : ∀ t : Fin cfg1.N, t.val % 8 = 7 → cfg1.idle 3 (grid1.coords t) = false := by decide +kernel

theorem zero2 : (![0, 0] : Fin 2 → Nat) = fun _ => 0 := by decide
/-- One store of the whole block covers it. -/
theorem cover1 (p : Vec F S256x2048 .f32) (y : S256x2048.Idx) :
    ∃ pc ∈ ([⟨Rect.unit (s := S256x2048) ![0, 0] S256x2048.size inb_S256x2048_S256x2048_0_0, p⟩] : List (View.Piece (Elt F) S256x2048 .f32)), y ∈ pc.1.set :=
  ⟨_, List.mem_singleton_self _, View.mem_set_unit_zero zero2 inb_S256x2048_S256x2048_0_0 y⟩

/-- Reading whole blocks changes nothing. -/
theorem pay3_eq (x0 : Vec F S256x2048 .bf16) (x1 : Vec F S2048x2048 .f32) (x6 : Vec F S256x2048 .f32) :
    k1_pay3 (View.ld x0 (Rect.unit (s := S256x2048) ![0, 0] S256x2048.size inb_S256x2048_S256x2048_0_0)) (View.ld x1 (Rect.unit (s := S2048x2048) ![0, 0] S2048x2048.size inb_S2048x2048_S2048x2048_0_0))
      (View.ld x6 (Rect.unit (s := S256x2048) ![0, 0] S256x2048.size inb_S256x2048_S256x2048_0_0)) = k1_pay3 x0 x1 x6 := by
  rw [show View.ld x0 (Rect.unit (s := S256x2048) ![0, 0] S256x2048.size inb_S256x2048_S256x2048_0_0) = x0 from View.ld_unit_zero zero2 _ x0,
    show View.ld x1 (Rect.unit (s := S2048x2048) ![0, 0] S2048x2048.size inb_S2048x2048_S2048x2048_0_0) = x1 from View.ld_unit_zero zero2 _ x1,
    show View.ld x6 (Rect.unit (s := S256x2048) ![0, 0] S256x2048.size inb_S256x2048_S256x2048_0_0) = x6 from View.ld_unit_zero zero2 _ x6]

set_option maxHeartbeats 1000000 in
/-- The body at a first position: the scratch ends at this position's product, whatever it held. -/
theorem sound_first1 (c : Dev nD) (E : Set ℕ) (i : grid1.Coords) (arg2 : Memref sig .tc .vmem S256x2048 .bf16) (harg2 : arg2.IsWhole) (arg3 : Memref sig .tc .vmem S2048x2048 .f32) (harg3 : arg3.IsWhole)
    (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole)
    (hc0 : first1 i) (hc1 : ¬later1 i) (hc2 : ¬last1 i)
    (x0 : Vec F S256x2048 .bf16) (x1 : Vec F S2048x2048 .f32) (x2 : Vec F S1x2048 .f32) (x3 : Vec F S256x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay2 x0 x1)) -∗ K ⟨⟩))
      ⊢ wp frame (wpE (defs₀ (F := F)) Variants.none c none) E (cc1__matmul1_kernel i arg2 harg2 arg3 harg3 arg4 harg4 arg5 harg5 arg6 harg6) K := by
  simp only [cc1__matmul1_kernel_eq_skeleton]; unfold cc1__matmul1_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0 hf1 hf2 hf3
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  refine (View.read_writes_eq_canon _ _ _ (cover1 _)).trans ((View.canon_unit_zero zero2 _ _).trans ?_)
  exact congrArg₂ k1_pay2 (View.ld_unit_zero zero2 _ _) (View.ld_unit_zero zero2 _ _)

set_option maxHeartbeats 1000000 in
/-- The body at a middle position: this position's product is added to the scratch. -/
theorem sound_middle1 (c : Dev nD) (E : Set ℕ) (i : grid1.Coords) (arg2 : Memref sig .tc .vmem S256x2048 .bf16) (harg2 : arg2.IsWhole) (arg3 : Memref sig .tc .vmem S2048x2048 .f32) (harg3 : arg3.IsWhole)
    (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole)
    (hc0 : ¬first1 i) (hc1 : later1 i) (hc2 : ¬last1 i)
    (x0 : Vec F S256x2048 .bf16) (x1 : Vec F S2048x2048 .f32) (x2 : Vec F S1x2048 .f32) (x3 x6 : Vec F S256x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x6
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay3 x0 x1 x6)) -∗ K ⟨⟩))
      ⊢ wp frame (wpE (defs₀ (F := F)) Variants.none c none) E (cc1__matmul1_kernel i arg2 harg2 arg3 harg3 arg4 harg4 arg5 harg5 arg6 harg6) K := by
  simp only [cc1__matmul1_kernel_eq_skeleton]; unfold cc1__matmul1_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0 hf1 hf2 hf3 hf6
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  refine (View.read_writes_eq_canon _ _ _ (cover1 _)).trans ((View.canon_unit_zero zero2 _ _).trans ?_)
  exact pay3_eq _ _ _

set_option maxHeartbeats 1000000 in
/-- The body at the last position: this position's product is added to the scratch and the output written from it. -/
theorem sound_last1 (c : Dev nD) (E : Set ℕ) (i : grid1.Coords) (arg2 : Memref sig .tc .vmem S256x2048 .bf16) (harg2 : arg2.IsWhole) (arg3 : Memref sig .tc .vmem S2048x2048 .f32) (harg3 : arg3.IsWhole)
    (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole)
    (hc0 : ¬first1 i) (hc1 : later1 i) (hc2 : last1 i)
    (x0 : Vec F S256x2048 .bf16) (x1 : Vec F S2048x2048 .f32) (x2 : Vec F S1x2048 .f32) (x6 : Vec F S256x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x6
        ∗ (iprop(owns (c : Thread nD τ) arg2 fullShare x0 ∗ owns (c : Thread nD τ) arg3 fullShare x1 ∗ owns (c : Thread nD τ) arg4 fullShare x2
            ∗ owns (c : Thread nD τ) arg5 fullShare (k1_pay4 (k1_pay3 x0 x1 x6) x2) ∗ owns (c : Thread nD τ) arg6 fullShare (k1_pay3 x0 x1 x6)) -∗ K ⟨⟩))
      ⊢ wp frame (wpE (defs₀ (F := F)) Variants.none c none) E (cc1__matmul1_kernel i arg2 harg2 arg3 harg3 arg4 harg4 arg5 harg5 arg6 harg6) K := by
  simp only [cc1__matmul1_kernel_eq_skeleton]; unfold cc1__matmul1_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0 hf1 hf2 hf6
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1 _)).trans ((View.canon_unit_zero zero2 _ _).trans ?_)
    refine congrArg₂ k1_pay4 ((View.readCov_unit_zero _ zero2 _ _).trans (pay3_eq _ _ _)) (View.ld_unit_zero zero2 _ _)
  iexists _; isplitr
  swap; · iexact H6
  ipureintro
  refine (View.read_writes_eq_canon _ _ _ (cover1 _)).trans ((View.canon_unit_zero zero2 _ _).trans ?_)
  exact pay3_eq _ _ _

/-- What the scratch holds after each position: the running sum of the products, restarted at each first position. -/
def acc1 (c : Dev nD) : (n : ℕ) → n < cfg1.N → Vec F S256x2048 .f32
  | 0, hn => k1_pay2 (iblk1 V c 0 ⟨0, hn⟩) (iblk1 V c 1 ⟨0, hn⟩)
  | n + 1, hn => if (n + 1) % 8 = 0 then k1_pay2 (iblk1 V c 0 ⟨n + 1, hn⟩) (iblk1 V c 1 ⟨n + 1, hn⟩)
      else k1_pay3 (iblk1 V c 0 ⟨n + 1, hn⟩) (iblk1 V c 1 ⟨n + 1, hn⟩) (acc1 c n (Nat.lt_of_succ_lt hn))

theorem acc1_first (c : Dev nD) (t : Fin cfg1.N) (h : t.val % 8 = 0) :
    acc1 V c t.val t.isLt = k1_pay2 (iblk1 V c 0 t) (iblk1 V c 1 t) := by
  obtain ⟨n, hn⟩ := t
  cases n with
  | zero => rfl
  | succ n => exact if_pos h
theorem acc1_later (c : Dev nD) (t : Fin cfg1.N) (h : t.val % 8 ≠ 0) :
    acc1 V c t.val t.isLt = k1_pay3 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The scratch, as the body is handed it. -/
abbrev scr1 : Memref sig .tc .vmem S256x2048 .f32 := Memref.whole cc1_scratch0
/-- The scoped buffers that are neither this call's staging buffers nor its scratch. -/
abbrev but1 (c : Dev nD) : sProp 𝕄 := Pipeline.scopedRestBut (Ix := Unit) (Name := ℕ) (U := UR sig nD τ) (Lvl := ℕ) (Val := Elt F) spec1 c [cc1_scratch0]
theorem ΦA1_eq (c : Dev nD) :
    (Pipeline.ΦA spec1 c : sProp 𝕄) = iprop(iprop((∃ d, owns (c : Thread nD τ) scr1 fullShare d) ∗ but1 c) ∗ (∃ r, prngReg c r)) := by
  unfold Pipeline.ΦA; rw [scopedRest1_split]; simp only [scr1, owns_whole]; try rfl

/-- What is held between positions: the scratch at the running sum, beside everything the body does not touch. -/
def inv1 (c : Dev nD) : (n : ℕ) → n ≤ cfg1.N → sProp 𝕄
  | 0, _ => Pipeline.ΦA spec1 c
  | n + 1, hn => iprop(iprop(owns (c : Thread nD τ) scr1 fullShare (acc1 V c n hn) ∗ but1 c) ∗ (∃ r, prngReg c r))
theorem inv1_succ (c : Dev nD) (n : ℕ) (hn : n < cfg1.N) :
    inv1 V c (n + 1) hn = iprop(iprop(owns (c : Thread nD τ) scr1 fullShare (acc1 V c n hn) ∗ but1 c) ∗ (∃ r, prngReg c r)) := rfl
theorem inv1_pos (c : Dev nD) (n : ℕ) (h : n ≤ cfg1.N) (hz : n ≠ 0) :
    inv1 V c n h = iprop(iprop(owns (c : Thread nD τ) scr1 fullShare (acc1 V c (n - 1) (by omega)) ∗ but1 c) ∗ (∃ r, prngReg c r)) := by
  cases n with
  | zero => exact absurd rfl hz
  | succ n => rfl
/-- Forgetting what the scratch holds. -/
theorem inv1_forget (c : Dev nD) (n : ℕ) (h : n ≤ cfg1.N) : inv1 V c n h ⊢ Pipeline.ΦA spec1 c := by
  cases n with
  | zero => exact Idealize.SL.BI.Entails.refl _
  | succ n =>
    rw [inv1_succ, ΦA1_eq]
    iintro ⟨⟨HS, HR⟩, Hg⟩
    isplitl [HS HR]
    · isplitl [HS]
      · iexists _; iexact HS
      iexact HR
    iexact Hg

theorem inv1_any (c : Dev nD) (n : ℕ) (h : n ≤ cfg1.N) :
    inv1 V c n h ⊢ iprop(iprop((∃ d, owns (c : Thread nD τ) scr1 fullShare d) ∗ but1 c) ∗ (∃ r, prngReg c r)) := by
  rw [← ΦA1_eq]; exact inv1_forget V c n h

/-- The call's proof data: the arrays as found, what the body leaves in every window, the scratch at the running sum between
    positions, and nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay4 (acc1 V c t.val t.isLt) (iblk1 V c 2 t)
  Φ t := inv1 V c t.val (Nat.le_of_lt_succ t.isLt)
  q _ := fullShare
  owed _ := 0

/-- The proof data start from the arrays as found. -/
theorem A_eq1 (c : Dev nD) (w : Fin cfg1.W) : (dat1 V c).A w = V c (Pipeline.arrRef spec1 w) := by
  dsimp only [dat1]
theorem Φ1_castSucc (c : Dev nD) (t : Fin cfg1.N) : (dat1 V c).Φ t.castSucc = inv1 V c t.val (Nat.le_of_lt t.isLt) := by
  dsimp only [dat1]; exact Pipeline.Dat.Φ_castSucc (inv1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay4 (acc1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is entered with at a point, window by window. -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d)))
/-- What it returns there. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 1000000 in
/-- The body at any point meets that. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = inv1 V c (t.val + 1) t.isLt from rfl, inv1_succ, Φ1_castSucc]
  rw [show (dat1 V c).leavesExact 0 t = owns (c : Thread nD τ) (win1_0.stage (cfg1.slots t 0)) fullShare ((dat1 V c).after 0 t) from rfl, after1_0]
  rw [show (dat1 V c).leavesExact 1 t = owns (c : Thread nD τ) (win1_1.stage (cfg1.slots t 1)) fullShare ((dat1 V c).after 1 t) from rfl, after1_1]
  rw [show (dat1 V c).leavesExact 2 t = owns (c : Thread nD τ) (win1_2.stage (cfg1.slots t 2)) fullShare ((dat1 V c).after 2 t) from rfl, after1_2]
  by_cases h0 : t.val % 8 = 0
  · have h7 : t.val % 8 ≠ 7 := by omega
    rw [Dat.leavesExact_idle (dat1 V c) 3 t (idle1_3 t h7).1 (idle1_3 t h7).2]
    rw [acc1_first V c t h0]
    iintro ⟨HΦ, Ho, ⟨%d0, H0⟩, ⟨%d1, H1⟩, ⟨%d2, H2⟩, ⟨%d3, H3⟩⟩
    ihave HΦ := (inv1_any V c _ _) $$ HΦ
    icases HΦ with ⟨⟨HS, HR⟩, Hg⟩
    iapply (sound_first1 c Set.univ (grid1.coords t) _ _ _ _ _ _ _ _ _ _ ((first1_iff t).mpr h0) (fun h => by have := (later1_iff t).mp h; omega) (fun h => h7 ((last1_iff t).mp h)) (iblk1 V c 0 t) (iblk1 V c 1 t) (iblk1 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have h1 : 1 ≤ t.val % 8 := by omega
    rw [inv1_pos V c _ _ hz, acc1_later V c t h0]
    by_cases h7 : t.val % 8 = 7
    · rw [show (dat1 V c).leavesExact 3 t = owns (c : Thread nD τ) (win1_3.stage (cfg1.slots t 3)) fullShare ((dat1 V c).after 3 t) from by
          unfold Dat.leavesExact; rw [live1_3 t h7], after1_3, acc1_later V c t h0]
      iintro ⟨⟨⟨HS, HR⟩, Hg⟩, Ho, ⟨%d0, H0⟩, ⟨%d1, H1⟩, ⟨%d2, H2⟩, ⟨%d3, H3⟩⟩
      iapply (sound_last1 c Set.univ (grid1.coords t) _ _ _ _ _ _ _ _ _ _ (fun h => h0 ((first1_iff t).mp h)) ((later1_iff t).mpr h1) ((last1_iff t).mpr h7) (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idle1_3 t h7).1 (idle1_3 t h7).2]
      iintro ⟨⟨⟨HS, HR⟩, Hg⟩, Ho, ⟨%d0, H0⟩, ⟨%d1, H1⟩, ⟨%d2, H2⟩, ⟨%d3, H3⟩⟩
      iapply (sound_middle1 c Set.univ (grid1.coords t) _ _ _ _ _ _ _ _ _ _ (fun h => h0 ((first1_iff t).mp h)) ((later1_iff t).mpr h1) (fun h => h7 ((last1_iff t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body table's row at a point is the body on that point's staging buffers. -/
theorem defs₀_row1 (t : Fin cfg1.N) :
    defs₀ (F := F) .tc cfg1.body (cfg1.bodyArgs t (cfg1.slots t)) = bodyAt1 t := by
  unfold defs₀; rw [Defs.onTc_tc]

/-- The obligation the pipeline asks of the body, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the call is handed starts the invariant, and the invariant at the end gives it back. -/
theorem in1 (c : Dev nD) : Pipeline.ΦA spec1 c ⊢ (dat1 V c).Φ 0 := Idealize.SL.BI.Entails.refl _
theorem out1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl]
  exact inv1_forget V c _ _

end Cert.KernelIdeal.Run

end
-- ==== Proof.Run.Region2.lean ====
/- The third call, the output layer and the partial sums of the losses: what its body leaves at every grid point, stated
   over the contents the call finds. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- deciding that the stores tile a block recurses once per coordinate of its long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers as the call finds them
variable (V : (c : Dev nD) → (b : Ref sig .tc) → Buf (Elt F) ((c : Thread nD τ).loc b))

/-- Window `w`'s block at a point, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S128x4096 := Rect.unit (s := S128x4096) ![0, 0] S128x4096.size inb_S128x4096_S128x4096_0_0
abbrev r2_1 : Rect S1000x4096 := Rect.unit (s := S1000x4096) ![0, 0] S1000x4096.size inb_S1000x4096_S1000x4096_0_0
abbrev r2_2 : Rect S1x1000 := Rect.unit (s := S1x1000) ![0, 0] S1x1000.size inb_S1x1000_S1x1000_0_0
abbrev r2_3 : Rect S128x1000 := Rect.unit (s := S128x1000) ![0, 0] S128x1000.size inb_S128x1000_S128x1000_0_0
abbrev r2_4 : Rect S1x1x1 := Rect.unit (s := S1x1x1) ![0, 0, 0] S1x1x1.size inb_S1x1x1_S1x1x1_0_0_0
abbrev r2_5 : Rect S128x128 := Rect.unit (s := S128x128) ![0, 0] S128x128.size inb_S128x128_S128x128_0_0

/-- The class scores after the body. -/
def out2_5 (x0 : Vec F S128x4096 .f32) (x1 : Vec F S128x4096 .f32) (x2 : Vec F S1000x4096 .f32) (x3 : Vec F S1x1000 .f32) (x4 : Vec F S128x128 .i32) : Vec F S128x1000 .f32 :=
  View.canon [⟨r2_3, k2_pay3 (View.ld x0 r2_0) (View.ld x2 r2_1) (View.ld x3 r2_2)⟩]

/-- One store covers the block. -/
theorem cover2_5 (p0 : Vec F S128x1000 .f32) (y : S128x1000.Idx) :
    ∃ pc ∈ ([⟨r2_3, p0⟩] : List (View.Piece (Elt F) S128x1000 .f32)), y ∈ pc.1.set :=
  View.cover_of_tiled [⟨r2_3, p0⟩] S128x1000.size (by rfl) y

/-- The cross entropy's partial sum after the body. -/
def out2_6 (x0 : Vec F S128x4096 .f32) (x1 : Vec F S128x4096 .f32) (x2 : Vec F S1000x4096 .f32) (x3 : Vec F S1x1000 .f32) (x4 : Vec F S128x128 .i32) : Vec F S1x1x1 .f32 :=
  View.canon [⟨r2_4, k2_pay1 (k2_pay3 (View.ld x0 r2_0) (View.ld x2 r2_1) (View.ld x3 r2_2)) (k2_pay5 (View.ld x0 r2_0) (View.ld x2 r2_1) (View.ld x3 r2_2)) (iota .tc S128x1000 32 [1] iota_S128x1000_d1_w32) (k2_pay6 (View.ld x4 r2_5))⟩]

/-- One store covers the block. -/
theorem cover2_6 (p0 : Vec F S1x1x1 .f32) (y : S1x1x1.Idx) :
    ∃ pc ∈ ([⟨r2_4, p0⟩] : List (View.Piece (Elt F) S1x1x1 .f32)), y ∈ pc.1.set :=
  View.cover_of_tiled [⟨r2_4, p0⟩] S1x1x1.size (by rfl) y

/-- The binary entropy's partial sum after the body. -/
def out2_7 (x0 : Vec F S128x4096 .f32) (x1 : Vec F S128x4096 .f32) (x2 : Vec F S1000x4096 .f32) (x3 : Vec F S1x1000 .f32) (x4 : Vec F S128x128 .i32) : Vec F S1x1x1 .f32 :=
  View.canon [⟨r2_4, k2_pay4 (View.ld x0 r2_0) (View.ld x1 r2_0)⟩]

/-- One store covers the block. -/
theorem cover2_7 (p0 : Vec F S1x1x1 .f32) (y : S1x1x1.Idx) :
    ∃ pc ∈ ([⟨r2_4, p0⟩] : List (View.Piece (Elt F) S1x1x1 .f32)), y ∈ pc.1.set :=
  View.cover_of_tiled [⟨r2_4, p0⟩] S1x1x1.size (by rfl) y

set_option maxHeartbeats 1000000 in
/-- The body on any staging buffers: it leaves the inputs as they were and each output at the value named above. -/
theorem sound_kernel2 (c : Dev nD) (E : Set ℕ) (i : grid2.Coords) (arg1 : Memref sig .tc .vmem S128x4096 .f32) (harg1 : arg1.IsWhole) (arg2 : Memref sig .tc .vmem S128x4096 .f32) (harg2 : arg2.IsWhole) (arg3 : Memref sig .tc .vmem S1000x4096 .f32) (harg3 : arg3.IsWhole) (arg4 : Memref sig .tc .vmem S1x1000 .f32) (harg4 : arg4.IsWhole) (arg5 : Memref sig .tc .vmem S128x128 .i32) (harg5 : arg5.IsWhole) (arg6 : Memref sig .tc .vmem S128x1000 .f32) (harg6 : arg6.IsWhole) (arg7 : Memref sig .tc .vmem S1x1x1 .f32) (harg7 : arg7.IsWhole) (arg8 : Memref sig .tc .vmem S1x1x1 .f32) (harg8 : arg8.IsWhole)
    (x0 : Vec F S128x4096 .f32) (x1 : Vec F S128x4096 .f32) (x2 : Vec F S1000x4096 .f32) (x3 : Vec F S1x1000 .f32) (x4 : Vec F S128x128 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4) ∗ owns (c : Thread nD τ) arg7 fullShare (out2_6 x0 x1 x2 x3 x4) ∗ owns (c : Thread nD τ) arg8 fullShare (out2_7 x0 x1 x2 x3 x4)) -∗ K ⟨⟩))
      ⊢ wp frame (wpE (defs₀ (F := F)) Variants.none c none) E (cc2__head_kernel i arg1 harg1 arg2 harg2 arg3 harg3 arg4 harg4 arg5 harg5 arg6 harg6 arg7 harg7 arg8 harg8) K := by
  simp only [cc2__head_kernel_eq_skeleton]; unfold cc2__head_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-- The call's proof data: the arrays as found, what the body leaves in every window, and nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
    | ⟨7, _⟩ => out2_7 (iblk2 V c 0 t) (iblk2 V c 1 t) (iblk2 V c 2 t) (iblk2 V c 3 t) (iblk2 V c 4 t)
  Φ _ := Pipeline.ΦA spec2 c
  q _ := fullShare
  owed _ := 0

/-- The proof data start from the arrays as found. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is entered with at a point, window by window. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it returns there. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point meets that. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body on that point's staging buffers. -/
theorem defs₀_row2 (t : Fin cfg2.N) :
    defs₀ (F := F) .tc cfg2.body (cfg2.bodyArgs t (cfg2.slots t)) = bodyAt2 t := by
  unfold defs₀; rw [Defs.onTc_tc]

/-- The obligation the pipeline asks of the body, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.Run.Segments.lean ====
/- The whole program as alternating host stretches and calls: what every buffer holds at each boundary, and the run. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Run.Region0
public import proofs.«01_k».proof.Proof.Run.Region1
public import proofs.«01_k».proof.Proof.Run.Region2
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8]

theorem hostOps0_fresh : (hostOps0 : List (HloOp τ sig (Elt F))).Forall fun op => op.fresh = ∅ := by
  simp only [List.Forall]; repeat' constructor
/-- What the operations of host stretch 0 write, in order. -/
abbrev written0 : List (Ref sig .tc) := [main_v0, main_v1, main_v2, main_v3, main_v4, main_v5]
theorem hostOps0_writes : (hostOps0 : List (HloOp τ sig (Elt F))).Forall fun op => op.writes ⊆ (written0.map (Proc.devRef (τ := τ) .tc)).toFinset :=
  StableHlo.forall_writes_sub_of_map rfl
theorem written0_args : ∀ a ∈ argRefs, a ∉ written0 := ListAll.forall_mem_of_all_decide (by decide +kernel)

theorem hostOps1_fresh : (hostOps1 : List (HloOp τ sig (Elt F))).Forall fun op => op.fresh = ∅ := by
  simp only [List.Forall]; repeat' constructor
/-- What the operations of host stretch 1 write, in order. -/
abbrev written1 : List (Ref sig .tc) := [main_v7, main_v8, main_v9]
theorem hostOps1_writes : (hostOps1 : List (HloOp τ sig (Elt F))).Forall fun op => op.writes ⊆ (written1.map (Proc.devRef (τ := τ) .tc)).toFinset :=
  StableHlo.forall_writes_sub_of_map rfl
theorem written1_args : ∀ a ∈ argRefs, a ∉ written1 := ListAll.forall_mem_of_all_decide (by decide +kernel)

theorem hostOps2_fresh : (hostOps2 : List (HloOp τ sig (Elt F))).Forall fun op => op.fresh = ∅ := by
  simp only [List.Forall]; repeat' constructor
/-- What the operations of host stretch 2 write, in order. -/
abbrev written2 : List (Ref sig .tc) := [main_v11, main_v12, main_v13]
theorem hostOps2_writes : (hostOps2 : List (HloOp τ sig (Elt F))).Forall fun op => op.writes ⊆ (written2.map (Proc.devRef (τ := τ) .tc)).toFinset :=
  StableHlo.forall_writes_sub_of_map rfl
theorem written2_args : ∀ a ∈ argRefs, a ∉ written2 := ListAll.forall_mem_of_all_decide (by decide +kernel)

theorem hostOps3_fresh : (hostOps3 : List (HloOp τ sig (Elt F))).Forall fun op => op.fresh = ∅ := by
  simp only [List.Forall]; repeat' constructor
/-- What the operations of host stretch 3 write, in order. -/
abbrev written3 : List (Ref sig .tc) := [main_cst, main_v15, main_cst_0, main_v16, main_cst_1, main_v17, main_cst_2, main_v18, main_v19]
theorem hostOps3_writes : (hostOps3 : List (HloOp τ sig (Elt F))).Forall fun op => op.writes ⊆ (written3.map (Proc.devRef (τ := τ) .tc)).toFinset :=
  StableHlo.forall_writes_sub_of_map rfl
theorem written3_args : ∀ a ∈ argRefs, a ∉ written3 := ListAll.forall_mem_of_all_decide (by decide +kernel)

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- The buffers after host stretch 0. -/
abbrev W1 : Dev nD → Valuation τ sig (Elt F) := fun c => StableHlo.after hostOps0 (W0 m ρ c)
theorem W1_of (c : Dev nD) (r : Ref sig .tc) (h : r ∉ written0) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (written0_args a ha)).trans (W0_args m ρ c a ha)
abbrev V1 : (c : Dev nD) → (b : Ref sig .tc) → Buf (Elt F) ((c : Thread nD τ).loc b) := fun c b => W1 m ρ c b

/-- The buffers after call 0: its arrays at what the pipeline leaves in them, the others as they were. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- What is no output of call 0 is unchanged by it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem left0 (c : Dev nD) (w : Fin cfg0.W) : (dat0 (V1 m ρ) c).arrAt w cfg0.N = V2 m ρ c (Pipeline.arrRef spec0 w) :=
  (W2_arr m ρ c w).symm
theorem kept0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after host stretch 1. -/
abbrev W3 : Dev nD → Valuation τ sig (Elt F) := fun c => StableHlo.after hostOps1 (W2 m ρ c)
theorem W3_of (c : Dev nD) (r : Ref sig .tc) (h : r ∉ written1) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (written1_args a ha)).trans (W2_args m ρ c a ha)
abbrev V3 : (c : Dev nD) → (b : Ref sig .tc) → Buf (Elt F) ((c : Thread nD τ).loc b) := fun c b => W3 m ρ c b

/-- The buffers after call 1: its arrays at what the pipeline leaves in them, the others as they were. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- What is no output of call 1 is unchanged by it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem left1 (c : Dev nD) (w : Fin cfg1.W) : (dat1 (V3 m ρ) c).arrAt w cfg1.N = V4 m ρ c (Pipeline.arrRef spec1 w) :=
  (W4_arr m ρ c w).symm
theorem kept1_rest (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The buffers after host stretch 2. -/
abbrev W5 : Dev nD → Valuation τ sig (Elt F) := fun c => StableHlo.after hostOps2 (W4 m ρ c)
theorem W5_of (c : Dev nD) (r : Ref sig .tc) (h : r ∉ written2) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (written2_args a ha)).trans (W4_args m ρ c a ha)
abbrev V5 : (c : Dev nD) → (b : Ref sig .tc) → Buf (Elt F) ((c : Thread nD τ).loc b) := fun c b => W5 m ρ c b

/-- The buffers after call 2: its arrays at what the pipeline leaves in them, the others as they were. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- What is no output of call 2 is unchanged by it. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem left2 (c : Dev nD) (w : Fin cfg2.W) : (dat2 (V5 m ρ) c).arrAt w cfg2.N = V6 m ρ c (Pipeline.arrRef spec2 w) :=
  (W6_arr m ρ c w).symm
theorem kept2_rest (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- The buffers after host stretch 3. -/
abbrev W7 : Dev nD → Valuation τ sig (Elt F) := fun c => StableHlo.after hostOps3 (W6 m ρ c)
theorem W7_of (c : Dev nD) (r : Ref sig .tc) (h : r ∉ written3) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (written3_args a ha)).trans (W6_args m ρ c a ha)

abbrev adm : (p : Fin 3) → (pcfgs (F := F) p).Adm := fun p => (cfgs p).toPCfg_adm
/-- Each call's proof data, at the contents it finds. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What goes along with the buffers: the generator register, and that nothing is owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the return, beside nothing being owed. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Call 0 as a segment: entered from every unscoped buffer as the stretch before left it; its arrays are split out and put back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered from every unscoped buffer as the stretch before left it; its arrays are split out and put back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := in1 (V3 m ρ) c
    rw [show (Pipeline.ΦA spec1 c : sProp 𝕄) = iprop(Pipeline.scopedRest spec1 c ∗ (∃ r, prngReg c r)) from rfl] at h
    rw [show (pdats m ρ 1 c).Φ 0 = (dat1 (V3 m ρ) c).Φ 0 from rfl]
    iintro ⟨Hp, -, Hr⟩
    iapply h
    isplitl [Hr]; · iexact Hr
    iexact Hp
  hout c := by
    have h := out1 (V3 m ρ) c
    rw [show (Pipeline.ΦA spec1 c : sProp 𝕄) = iprop(Pipeline.scopedRest spec1 c ∗ (∃ r, prngReg c r)) from rfl] at h
    rw [Pipeline.ownSems0_none, show (pdats m ρ 1 c).Φ (Fin.last _) = (dat1 (V3 m ρ) c).Φ (Fin.last cfg1.N) from rfl]
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (left1 m ρ c) (kept1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered from every unscoped buffer as the stretch before left it; its arrays are split out and put back. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (left2 m ρ c) (kept2_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The run: every execution terminates, every buffer that is not scoped ends at the last boundary's contents, and every semaphore
    counter ends at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The frame: the argument arrays end unchanged and every semaphore counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨(h.1 c _ (mem_uc main_arg0 (by decide))).trans (W7_args m ρ c main_arg0 (by decide)),
     (h.1 c _ (mem_uc main_arg1 (by decide))).trans (W7_args m ρ c main_arg1 (by decide)),
     (h.1 c _ (mem_uc main_arg2 (by decide))).trans (W7_args m ρ c main_arg2 (by decide)),
     (h.1 c _ (mem_uc main_arg3 (by decide))).trans (W7_args m ρ c main_arg3 (by decide)),
     (h.1 c _ (mem_uc main_arg4 (by decide))).trans (W7_args m ρ c main_arg4 (by decide)),
     (h.1 c _ (mem_uc main_arg5 (by decide))).trans (W7_args m ρ c main_arg5 (by decide)),
     (h.1 c _ (mem_uc main_arg6 (by decide))).trans (W7_args m ρ c main_arg6 (by decide)),
     (h.1 c _ (mem_uc main_arg7 (by decide))).trans (W7_args m ρ c main_arg7 (by decide)),
     (h.1 c _ (mem_uc main_arg8 (by decide))).trans (W7_args m ρ c main_arg8 (by decide))⟩, h.2⟩) (run m ρ)

end Cert.KernelIdeal.Run

end
-- ==== Proof.Run.Frames.lean ====
/- The frames: the printed program and its ideal form are the same text, so the run proved for any float values serves both. -/
module

public import proofs.«01_k».proof.Defs
public import proofs.«01_k».proof.Proof.Gen.Kernel
public import proofs.«01_k».proof.Proof.Gen.ReferenceIdeal.Run
public import proofs.«01_k».proof.Proof.Run.Segments

@[expose] public section

namespace Cert.Frames

open Idealize.ShloMosaic Idealize.SL.Sem

/-- The frame of that text at the machine's floats, as the ideal form's names spell it. -/
def KernelText : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)
theorem kernelText : KernelText := fun m g _ => Cert.KernelIdeal.Run.unchanged (F := Bits) m g
theorem kernel_same : @Cert.quiescent_Kernel Cert.Kernel.Gen.facts = KernelText := by sl_kernel_rfl
theorem kernel : @Cert.quiescent_Kernel Cert.Kernel.Gen.facts := kernel_same.mpr kernelText

theorem kernelIdeal : @Cert.quiescent_KernelIdeal Cert.KernelIdeal.Gen.facts := fun m g _ => Cert.KernelIdeal.Run.unchanged (F := Ideal) m g

theorem referenceIdeal : @Cert.quiescent_ReferenceIdeal Cert.ReferenceIdeal.Gen.facts := fun m g _ =>
  (θ_run _ _ _).mono (fun r h => ⟨fun c => (h c).2.2, sem_eq_zero_of_no_sems (by decide) r.2⟩) (Cert.ReferenceIdeal.Value.run (F := Ideal) m g)

end Cert.Frames
-- ==== Proof.Value.Scatter.lean ====
/- Setting entries of a row by index words, the last writer winning, as a sum: of the features whose words agree only the
   last is kept, and each column adds up the kept features whose word names it. And the word arithmetic by which a column's
   number is split into a high and a low part. -/
module

public import Idealize.ShloMosaic.PureOps.Ideal.Laws
public import Idealize.ShloMosaic.Lib.WordCmp
public import Idealize.ShloMosaic.Lib.Routing.Words
public import Idealize.ShloMosaic.Lib.ScatterToDense.RefScatter

@[expose] public section

noncomputable section

namespace Cert.Value

open Idealize.ShloMosaic Idealize.ShloMosaic.ScatterToDense Idealize.ShloMosaic.LaneScatter

variable {n : ℕ}

/-- Feature `j`, if no later feature has its word; zero otherwise. -/
def keep (w : Fin n → BitVec 32) (t : Fin n → EReal) (j : Fin n) : EReal :=
  if ∀ j', j < j' → w j ≠ w j' then t j else 0

/-- Column `k`: the sum of the kept features whose word is `k`. -/
def scat (w : Fin n → BitVec 32) (t : Fin n → EReal) (k : ℕ) : EReal :=
  ∑ j, if (w j).toNat = k then keep w t j else 0

/-- The last feature whose word is `k`, or zero, is that sum. -/
theorem lastHit_eq_scat (word : ℕ → BitVec 32) (val : ℕ → EReal) (k : ℕ) :
    GS word val 0 k n = scat (n := n) (fun j => word j.val) (fun j => val j.val) k := by
  unfold GS
  rcases lastHit_cases (fun j => k = (word j).toNat) val 0 n with ⟨i, hi, hh, hl, hv⟩ | ⟨hn, hv⟩
  · rw [hv]
    unfold scat
    rw [Finset.sum_eq_single (⟨i, hi⟩ : Fin n)]
    · rw [if_pos hh.symm]
      unfold keep
      rw [if_pos]
      intro j' hj' e
      exact hl j'.val hj' j'.isLt (hh.trans (congrArg BitVec.toNat e))
    · intro j _ hj
      by_cases e : (word j.val).toNat = k
      · rw [if_pos e]
        unfold keep
        rw [if_neg]
        intro h
        have hlt : ¬ i < j.val := fun q => hl j.val q j.isLt e.symm
        have hne : j.val ≠ i := fun q => hj (Fin.ext q)
        exact h ⟨i, hi⟩ (show j.val < i by omega) (BitVec.eq_of_toNat_eq (e.trans hh))
      · rw [if_neg e]
    · intro h
      exact absurd (Finset.mem_univ _) h
  · rw [hv]
    symm
    unfold scat
    refine Finset.sum_eq_zero fun j _ => ?_
    rw [if_neg]
    exact fun e => hn j.val j.isLt e.symm

/-- Counting the later features with the same word and keeping those that have none is `keep`. -/
theorem count_eq_keep (hn : n ≤ 2 ^ 31) (w : Fin n → BitVec 32) (t : Fin n → EReal) (j : Fin n) :
    (if ∑ x : Fin n, Scalar.select (IntOp.andi (IntOp.cmpi CmpIPredicate.eq (w j) (w x))
        (IntOp.cmpi CmpIPredicate.sgt (BitVec.ofNat 32 x.val) (BitVec.ofNat 32 j.val))) (1 : EReal) 0 = 0 then t j else 0)
      = keep w t j := by
  unfold keep
  refine if_congr ?_ rfl rfl
  have h1 : ∀ x : Fin n, Scalar.select (IntOp.andi (IntOp.cmpi CmpIPredicate.eq (w j) (w x))
        (IntOp.cmpi CmpIPredicate.sgt (BitVec.ofNat 32 x.val) (BitVec.ofNat 32 j.val))) (1 : EReal) 0
      = if w j = w x ∧ j < x then 1 else 0 := by
    intro x
    have hx : x.val < 2 ^ 31 := lt_of_lt_of_le x.isLt hn
    have hj : j.val < 2 ^ 31 := lt_of_lt_of_le j.isLt hn
    have e2 : IntOp.cmpi CmpIPredicate.sgt (BitVec.ofNat 32 x.val) (BitVec.ofNat 32 j.val) = BitVec.ofBool (decide (j < x)) := by
      rw [WordCmp.ofBool_decide_eq_ite]
      by_cases h : j < x
      · rw [if_pos h]; exact (WordCmp.cmpi_sgt_ofNat_eq_one_iff hx hj).2 h
      · rw [if_neg h]; exact (WordCmp.cmpi_sgt_ofNat_eq_zero_iff hx hj).2 (fun q => h q)
    rw [e2, WordCmp.cmpi_eq_eq, WordCmp.andi_ofBool, WordCmp.select_ofBool]
    by_cases h : w j = w x ∧ j < x
    · rw [if_pos h, if_pos (by simpa using h)]
    · rw [if_neg h, if_neg (by simpa using h)]
  rw [Finset.sum_congr rfl fun x _ => h1 x, Finset.sum_eq_zero_iff_of_nonneg (fun x _ => by split <;> simp)]
  constructor
  · intro h j' hj' e
    have := h j' (Finset.mem_univ _)
    rw [if_pos ⟨e, hj'⟩] at this
    exact one_ne_zero this
  · intro h x _
    rw [if_neg]
    exact fun q => h x q.2 q.1

/-- The quotient rounded down of a word by a positive one, as it is printed, for a word that is not negative. -/
def quot (d : BitVec 32) (w : BitVec 32) : BitVec 32 :=
  Scalar.select
      (IntOp.andi
        (IntOp.cmpi CmpIPredicate.ne
          (IntOp.subi (BitVec.setWidth 32 (IntOp.cmpi CmpIPredicate.sgt w 0#32))
            (BitVec.setWidth 32 (IntOp.cmpi CmpIPredicate.slt w 0#32)))
          (Scalar.subi (Scalar.extui (Scalar.cmpi CmpIPredicate.sgt d 0#32))
            (Scalar.extui (Scalar.cmpi CmpIPredicate.slt d 0#32))))
        (IntOp.cmpi CmpIPredicate.ne (IntOp.remsi ArithUnit.vector w d) 0#32))
      (IntOp.subi (IntOp.divsi ArithUnit.vector w d) 1#32)
      (IntOp.divsi ArithUnit.vector w d)

theorem quot_eq {d w : BitVec 32} (hd : 0 < d.toNat) (hd' : d.toNat < 2 ^ 31) (hw : w.toNat < 2 ^ 31) :
    quot d w = BitVec.ofNat 32 (w.toNat / d.toNat) := by
  obtain ⟨a, ha, rfl⟩ : ∃ a, a < 2 ^ 31 ∧ w = BitVec.ofNat 32 a := ⟨w.toNat, hw, by simp⟩
  obtain ⟨b, hb, hb0, rfl⟩ : ∃ b, b < 2 ^ 31 ∧ 0 < b ∧ d = BitVec.ofNat 32 b := ⟨d.toNat, hd', hd, by simp⟩
  have ea : (BitVec.ofNat 32 a).toNat = a := by rw [BitVec.toNat_ofNat]; exact Nat.mod_eq_of_lt (by omega)
  have eb : (BitVec.ofNat 32 b).toNat = b := by rw [BitVec.toNat_ofNat]; exact Nat.mod_eq_of_lt (by omega)
  rw [ea, eb]
  unfold quot
  rw [Routing.remsi_word .vector ha hb0 hb, Routing.divsi_word .vector ha hb0 hb]
  have hb1 : IntOp.cmpi CmpIPredicate.sgt (BitVec.ofNat 32 b) 0#32 = 1#1 :=
    (WordCmp.cmpi_sgt_ofNat_eq_one_iff (b := 0) hb (by decide)).2 hb0
  have hb2 : IntOp.cmpi CmpIPredicate.slt (BitVec.ofNat 32 b) 0#32 = 0#1 :=
    (WordCmp.cmpi_slt_ofNat_eq_zero_iff (b := 0) hb (by decide)).2 (by omega)
  have ha2 : IntOp.cmpi CmpIPredicate.slt (BitVec.ofNat 32 a) 0#32 = 0#1 :=
    (WordCmp.cmpi_slt_ofNat_eq_zero_iff (b := 0) ha (by decide)).2 (by omega)
  have hs : Scalar.subi (Scalar.extui (Scalar.cmpi CmpIPredicate.sgt (BitVec.ofNat 32 b) 0#32))
      (Scalar.extui (Scalar.cmpi CmpIPredicate.slt (BitVec.ofNat 32 b) 0#32)) = 1#32 := by
    show IntOp.subi (BitVec.setWidth 32 (IntOp.cmpi CmpIPredicate.sgt (BitVec.ofNat 32 b) 0#32))
      (BitVec.setWidth 32 (IntOp.cmpi CmpIPredicate.slt (BitVec.ofNat 32 b) 0#32)) = 1#32
    rw [hb1, hb2]; decide
  rw [hs, ha2]
  rcases Nat.eq_zero_or_pos a with h | h
  · subst h
    rw [Nat.zero_mod, Nat.zero_div]
    have e : IntOp.cmpi CmpIPredicate.ne (BitVec.ofNat 32 0) 0#32 = 0#1 := by decide
    rw [e]
    refine WordCmp.select_of_eq_zero ?_ _ _
    show _ &&& 0#1 = 0#1
    rw [BitVec.and_zero]
  · have ha1 : IntOp.cmpi CmpIPredicate.sgt (BitVec.ofNat 32 a) 0#32 = 1#1 :=
      (WordCmp.cmpi_sgt_ofNat_eq_one_iff (b := 0) ha (by decide)).2 h
    rw [ha1]
    have e : IntOp.cmpi CmpIPredicate.ne (IntOp.subi (BitVec.setWidth 32 1#1) (BitVec.setWidth 32 0#1)) 1#32 = 0#1 := by decide
    rw [e]
    refine WordCmp.select_of_eq_zero ?_ _ _
    show 0#1 &&& _ = 0#1
    rw [BitVec.zero_and]

/-- The row a feature is put in: the high part of its word. -/
theorem row_eq {d w : BitVec 32} (hd : 0 < d.toNat) (hd' : d.toNat < 2 ^ 31) (hw : w.toNat < 2 ^ 31) {h : ℕ} (hh : h < 2 ^ 31) (t : EReal) :
    Scalar.select (IntOp.cmpi CmpIPredicate.eq (BitVec.ofNat 32 h) (quot d w)) t 0 = if h = w.toNat / d.toNat then t else 0 := by
  have hq : w.toNat / d.toNat < 2 ^ 32 := lt_of_le_of_lt (Nat.div_le_self _ _) (by omega)
  rw [quot_eq hd hd' hw]
  by_cases e : h = w.toNat / d.toNat
  · rw [if_pos e]
    exact WordCmp.select_of_eq_one ((WordCmp.cmpi_eq_ofNat_eq_one_iff (by omega) hq).2 e) _ _
  · rw [if_neg e]
    exact WordCmp.select_of_eq_zero ((WordCmp.cmpi_eq_ofNat_eq_zero_iff (by omega) hq).2 e) _ _

/-- The lane a feature is put in: the low part of its word. -/
theorem lane_eq {d w : BitVec 32} (hd : 0 < d.toNat) (hd' : d.toNat < 2 ^ 31) (hw : w.toNat < 2 ^ 31) {l : ℕ} (hl : l < 2 ^ 31) :
    Scalar.select (IntOp.cmpi CmpIPredicate.eq (BitVec.ofNat 32 l) (IntOp.subi w (IntOp.muli (quot d w) d))) (1 : EReal) 0
      = if l = w.toNat % d.toNat then 1 else 0 := by
  have hm : w.toNat % d.toNat < 2 ^ 32 := lt_of_le_of_lt (Nat.mod_le _ _) (by omega)
  have e0 : IntOp.subi w (IntOp.muli (quot d w) d) = BitVec.ofNat 32 (w.toNat % d.toNat) := by
    rw [quot_eq hd hd' hw]
    apply BitVec.eq_of_toNat_eq
    have hdm := Nat.div_add_mod w.toNat d.toNat
    have hle : w.toNat / d.toNat * d.toNat ≤ w.toNat := Nat.div_mul_le_self _ _
    have hq : w.toNat / d.toNat < 2 ^ 32 := lt_of_le_of_lt (Nat.div_le_self _ _) (by omega)
    show (w - BitVec.ofNat 32 (w.toNat / d.toNat) * d).toNat = _
    rw [BitVec.toNat_sub, BitVec.toNat_mul, BitVec.toNat_ofNat, BitVec.toNat_ofNat, Nat.mod_eq_of_lt hq, Nat.mod_eq_of_lt hm,
      Nat.mod_eq_of_lt (lt_of_le_of_lt hle (by omega))]
    rw [Nat.mul_comm] at hdm
    generalize w.toNat / d.toNat * d.toNat = x at *
    omega
  rw [e0]
  by_cases e : l = w.toNat % d.toNat
  · rw [if_pos e]
    exact WordCmp.select_of_eq_one ((WordCmp.cmpi_eq_ofNat_eq_one_iff (by omega) hm).2 e) _ _
  · rw [if_neg e]
    exact WordCmp.select_of_eq_zero ((WordCmp.cmpi_eq_ofNat_eq_zero_iff (by omega) hm).2 e) _ _

/-- The product of the two one-hot factors at row `h` and lane `l` is column `h * d + l`. -/
theorem sum_rows_lanes (w : Fin n → BitVec 32) (t : Fin n → EReal) (d h l : ℕ) (hl : l < d) :
    (∑ j, (if h = (w j).toNat / d then keep w t j else 0) * (if l = (w j).toNat % d then 1 else 0)) = scat w t (h * d + l) := by
  unfold scat
  refine Finset.sum_congr rfl fun j _ => ?_
  have hd : 0 < d := by omega
  by_cases e : (w j).toNat = h * d + l
  · have h1 : h = (w j).toNat / d := by
      rw [e, Nat.add_comm, Nat.add_mul_div_right _ _ hd, Nat.div_eq_of_lt hl, Nat.zero_add]
    have h2 : l = (w j).toNat % d := by
      rw [e, Nat.add_comm, Nat.add_mul_mod_self_right, Nat.mod_eq_of_lt hl]
    rw [if_pos h1, if_pos h2, if_pos e, mul_one]
  · rw [if_neg e]
    by_cases h2 : l = (w j).toNat % d
    · have h1 : h ≠ (w j).toNat / d := fun q => e (by
        have := Nat.div_add_mod (w j).toNat d
        rw [← q, ← h2, Nat.mul_comm] at this
        exact this.symm)
      rw [if_neg h1, zero_mul]
    · rw [if_neg h2, mul_zero]

end Cert.Value

end
-- ==== Proof.Value.Block0.lean ====
/- The first call's body on one block, read entry by entry: each stored row of the two tables is, at row `h` and lane `l`, the
   sum of the kept pooled features whose word is the column that row and lane make. -/
module

public import proofs.«01_k».proof.Proof.Run.Region0
public import proofs.«01_k».proof.Proof.Value.Scatter
public import Idealize.ShloMosaic.Lib.Pipeline.Value
public import Idealize.ShloMosaic.Lib.Pointwise

@[expose] public section

set_option maxRecDepth 16384

noncomputable section

namespace Cert.Value

open Idealize.ShloMosaic
open Cert.KernelIdeal Cert.KernelIdeal.Gen Cert.KernelIdeal.Run

/-- The mean of a block's 64 values of one feature, as the kernel takes it: the sum times the constant 1/64. -/
def pool (x : Vec Ideal S8x64x512 .f32) (b : Fin 8) (j : Fin 512) : EReal :=
  (∑ p : Fin 64, x (ix3 b p j)) * Ideal.ofBits FTy.f32 1015021568#32

/-- The pooled features of the first table, kept where no later one has the same word. -/
theorem kept0_apply (x0 : Vec Ideal S8x64x512 .f32) (x2 : Vec Ideal S1x8x512 .i32) (b : Fin 8) (j : Fin 512) :
    k0_pay8 (F := Ideal) x0 x2 (ix2 b j) = keep (fun i : Fin 512 => x2 (ix3 0 b i)) (pool x0 b) j := by
  rw [← count_eq_keep (by decide)]
  unfold pool
  pointwise [k0_pay8, k0_pay5, k0_pay7]

theorem kept1_apply (x1 : Vec Ideal S8x64x512 .f32) (x3 : Vec Ideal S1x8x512 .i32) (b : Fin 8) (j : Fin 512) :
    kept1 (F := Ideal) x1 x3 (ix2 b j) = keep (fun i : Fin 512 => x3 (ix3 0 b i)) (pool x1 b) j := by
  rw [← count_eq_keep (by decide)]
  unfold pool
  pointwise [kept1, k0_pay10, k0_pay4, k0_pay9, k0_pay6, k0_pay7]

theorem quot0_apply (v : IVec S8x512 32) (b : Fin 8) (j : Fin 512) :
    k0_pay11 v (ix2 b j) = quot 512#32 (v (ix2 b j)) := by
  unfold quot
  pointwise [k0_pay11]

theorem quot1_apply (v : IVec S8x512 32) (b : Fin 8) (j : Fin 512) :
    k0_pay25 v 128#32 k0_pay24 (ix2 b j) = quot 128#32 (v (ix2 b j)) := by
  unfold quot
  pointwise [k0_pay25, k0_pay24]

theorem word0_apply (x2 : Vec Ideal S1x8x512 .i32) (b : Fin 8) (j : Fin 512) :
    k0_pay5 (F := Ideal) (View.ld x2 r0_1) (ix2 b j) = x2 (ix3 0 b j) := by
  pointwise [k0_pay5]

theorem word1_apply (x2 : Vec Ideal S1x8x512 .i32) (b : Fin 8) (j : Fin 512) :
    k0_pay6 (F := Ideal) (View.ld x2 r0_1) (ix2 b j) = x2 (ix3 0 b j) := by
  pointwise [k0_pay6]

theorem ld0 (x0 : Vec Ideal S8x64x512 .f32) : View.ld (Val := Elt Ideal) x0 r0_0 = x0 := by
  funext i
  idx_vars i
  pointwise

theorem ld1 (x0 : Vec Ideal S1x8x512 .i32) : View.ld (Val := Elt Ideal) x0 r0_1 = x0 := by
  funext i
  idx_vars i
  obtain rfl : i0 = 0 := Subsingleton.elim _ _
  pointwise

theorem rows0_apply (x0 : Vec Ideal S8x64x512 .f32) (x2 : Vec Ideal S1x8x512 .i32) (hx : ∀ b j, (x2 (ix3 0 b j)).toNat < 2 ^ 31)
    (b : Fin 8) (h : Fin 32) (j : Fin 512) :
    rows0 (F := Ideal) x0 x2 (ix3 b h j)
      = if h.val = (x2 (ix3 0 b j)).toNat / 512 then keep (fun i : Fin 512 => x2 (ix3 0 b i)) (pool x0 b) j else 0 := by
  have e : rows0 (F := Ideal) x0 x2 (ix3 b h j)
      = Scalar.select (IntOp.cmpi .eq (BitVec.ofNat 32 h.val) (k0_pay11 (k0_pay5 (F := Ideal) (View.ld x2 r0_1)) (ix2 b j)))
          (k0_pay8 (F := Ideal) (View.ld x0 r0_0) (View.ld x2 r0_1) (ix2 b j)) 0 := by
    pointwise [rows0, k0_pay12]
  rw [e, quot0_apply, word0_apply, ld0, ld1, kept0_apply]
  exact row_eq (d := 512#32) (by decide) (by decide) (hx b j) (by omega) _

theorem cols0_apply (x2 : Vec Ideal S1x8x512 .i32) (hx : ∀ b j, (x2 (ix3 0 b j)).toNat < 2 ^ 31)
    (b : Fin 8) (j : Fin 512) (l : Fin 512) :
    cols0 (F := Ideal) x2 (ix3 b j l) = if l.val = (x2 (ix3 0 b j)).toNat % 512 then 1 else 0 := by
  have e : cols0 (F := Ideal) x2 (ix3 b j l)
      = Scalar.select (IntOp.cmpi .eq (BitVec.ofNat 32 l.val) (IntOp.subi (k0_pay5 (F := Ideal) (View.ld x2 r0_1) (ix2 b j))
          (IntOp.muli (k0_pay11 (k0_pay5 (F := Ideal) (View.ld x2 r0_1)) (ix2 b j)) 512#32))) 1 0 := by
    pointwise [cols0, lanes0, low0, k0_pay14, k0_pay13]
  rw [e, quot0_apply, word0_apply]
  exact lane_eq (d := 512#32) (by decide) (by decide) (hx b j) (by omega)

theorem rows1_apply (x0 : Vec Ideal S8x64x512 .f32) (x2 : Vec Ideal S1x8x512 .i32) (hx : ∀ b j, (x2 (ix3 0 b j)).toNat < 2 ^ 31)
    (b : Fin 8) (h : Fin 32) (j : Fin 512) :
    rows1 (F := Ideal) x0 x2 (ix3 b h j)
      = if h.val = (x2 (ix3 0 b j)).toNat / 128 then keep (fun i : Fin 512 => x2 (ix3 0 b i)) (pool x0 b) j else 0 := by
  have e : rows1 (F := Ideal) x0 x2 (ix3 b h j)
      = Scalar.select (IntOp.cmpi .eq (BitVec.ofNat 32 h.val) (k0_pay25 (k0_pay6 (F := Ideal) (View.ld x2 r0_1)) 128#32 k0_pay24 (ix2 b j)))
          (kept1 (F := Ideal) x0 x2 (ix2 b j)) 0 := by
    pointwise [rows1, k0_pay26]
  rw [e, quot1_apply, word1_apply, kept1_apply]
  exact row_eq (d := 128#32) (by decide) (by decide) (hx b j) (by omega) _

theorem cols1_apply (x2 : Vec Ideal S1x8x512 .i32) (hx : ∀ b j, (x2 (ix3 0 b j)).toNat < 2 ^ 31)
    (b : Fin 8) (j : Fin 512) (l : Fin 128) :
    cols1 (F := Ideal) x2 (ix3 b j l) = if l.val = (x2 (ix3 0 b j)).toNat % 128 then 1 else 0 := by
  have e : cols1 (F := Ideal) x2 (ix3 b j l)
      = Scalar.select (IntOp.cmpi .eq (BitVec.ofNat 32 l.val) (IntOp.subi (k0_pay6 (F := Ideal) (View.ld x2 r0_1) (ix2 b j))
          (IntOp.muli (k0_pay25 (k0_pay6 (F := Ideal) (View.ld x2 r0_1)) 128#32 k0_pay24 (ix2 b j)) 128#32))) 1 0 := by
    pointwise [cols1, k0_pay27]
  rw [e, quot1_apply, word1_apply]
  exact lane_eq (d := 128#32) (by decide) (by decide) (hx b j) (by omega)

/-- The first table's block: row, high part, low part. -/
def tab0 (x0 : Vec Ideal S8x64x512 .f32) (x2 : Vec Ideal S1x8x512 .i32) (y : S8x32x512.Idx) : EReal :=
  scat (fun i : Fin 512 => x2 (ix3 0 (y 0) i)) (pool x0 (y 0)) ((y 1).val * 512 + (y 2).val)

/-- The second table's block. -/
def tab1 (x1 : Vec Ideal S8x64x512 .f32) (x3 : Vec Ideal S1x8x512 .i32) (y : S8x32x128.Idx) : EReal :=
  scat (fun i : Fin 512 => x3 (ix3 0 (y 0) i)) (pool x1 (y 0)) ((y 1).val * 128 + (y 2).val)

theorem sum0 (x0 : Vec Ideal S8x64x512 .f32) (x2 : Vec Ideal S1x8x512 .i32) (hx : ∀ b j, (x2 (ix3 0 b j)).toNat < 2 ^ 31)
    (b : Fin 8) (h : Fin 32) (l : Fin 512) :
    ∑ j : Fin 512, rows0 (F := Ideal) x0 x2 (ix3 b h j) * cols0 (F := Ideal) x2 (ix3 b j l) = tab0 x0 x2 (ix3 b h l) := by
  rw [Finset.sum_congr rfl fun j _ => by rw [rows0_apply x0 x2 hx, cols0_apply x2 hx]]
  exact sum_rows_lanes (fun i : Fin 512 => x2 (ix3 0 b i)) (pool x0 b) 512 h.val l.val l.isLt

theorem sum1 (x1 : Vec Ideal S8x64x512 .f32) (x3 : Vec Ideal S1x8x512 .i32) (hx : ∀ b j, (x3 (ix3 0 b j)).toNat < 2 ^ 31)
    (b : Fin 8) (h : Fin 32) (l : Fin 128) :
    ∑ j : Fin 512, rows1 (F := Ideal) x1 x3 (ix3 b h j) * cols1 (F := Ideal) x3 (ix3 b j l) = tab1 x1 x3 (ix3 b h l) := by
  rw [Finset.sum_congr rfl fun j _ => by rw [rows1_apply x1 x3 hx, cols1_apply x3 hx]]
  exact sum_rows_lanes (fun i : Fin 512 => x3 (ix3 0 b i)) (pool x1 b) 128 h.val l.val l.isLt

variable (x0 x1 : Vec Ideal S8x64x512 .f32) (x2 x3 : Vec Ideal S1x8x512 .i32)

theorem store0_0 (h2 : ∀ b j, (x2 (ix3 0 b j)).toNat < 2 ^ 31) (h : Fin 32) (l : Fin 512) :
    k0_pay15 (F := Ideal) (rows0 x0 x2) lanes0 (low0 x2) (ix3 0 h l) = tab0 x0 x2 (ix3 0 h l) := by
  rw [← sum0 x0 x2 h2]
  pointwise [k0_pay15]; rfl

theorem store0_1 (h2 : ∀ b j, (x2 (ix3 0 b j)).toNat < 2 ^ 31) (h : Fin 32) (l : Fin 512) :
    k0_pay16 (F := Ideal) (rows0 x0 x2) lanes0 (low0 x2) (ix3 0 h l) = tab0 x0 x2 (ix3 1 h l) := by
  rw [← sum0 x0 x2 h2]
  pointwise [k0_pay16]; rfl

theorem store0_2 (h2 : ∀ b j, (x2 (ix3 0 b j)).toNat < 2 ^ 31) (h : Fin 32) (l : Fin 512) :
    k0_pay17 (F := Ideal) (rows0 x0 x2) lanes0 (low0 x2) (ix3 0 h l) = tab0 x0 x2 (ix3 2 h l) := by
  rw [← sum0 x0 x2 h2]
  pointwise [k0_pay17]; rfl

theorem store0_3 (h2 : ∀ b j, (x2 (ix3 0 b j)).toNat < 2 ^ 31) (h : Fin 32) (l : Fin 512) :
    k0_pay19 (F := Ideal) (k0_pay18 (rows0 x0 x2) lanes0 (low0 x2)) (ix3 0 h l) = tab0 x0 x2 (ix3 3 h l) := by
  rw [← sum0 x0 x2 h2]
  pointwise [k0_pay19, k0_pay18]; rfl

theorem store0_4 (h2 : ∀ b j, (x2 (ix3 0 b j)).toNat < 2 ^ 31) (h : Fin 32) (l : Fin 512) :
    k0_pay20 (F := Ideal) (rows0 x0 x2) (cols0 x2) (ix3 0 h l) = tab0 x0 x2 (ix3 4 h l) := by
  rw [← sum0 x0 x2 h2]
  pointwise [k0_pay20]

theorem store0_5 (h2 : ∀ b j, (x2 (ix3 0 b j)).toNat < 2 ^ 31) (h : Fin 32) (l : Fin 512) :
    k0_pay21 (F := Ideal) (rows0 x0 x2) (cols0 x2) (ix3 0 h l) = tab0 x0 x2 (ix3 5 h l) := by
  rw [← sum0 x0 x2 h2]
  pointwise [k0_pay21]

theorem store0_6 (h2 : ∀ b j, (x2 (ix3 0 b j)).toNat < 2 ^ 31) (h : Fin 32) (l : Fin 512) :
    k0_pay22 (F := Ideal) (rows0 x0 x2) (cols0 x2) (ix3 0 h l) = tab0 x0 x2 (ix3 6 h l) := by
  rw [← sum0 x0 x2 h2]
  pointwise [k0_pay22]

theorem store0_7 (h2 : ∀ b j, (x2 (ix3 0 b j)).toNat < 2 ^ 31) (h : Fin 32) (l : Fin 512) :
    k0_pay23 (F := Ideal) (rows0 x0 x2) (cols0 x2) (ix3 0 h l) = tab0 x0 x2 (ix3 7 h l) := by
  rw [← sum0 x0 x2 h2]
  pointwise [k0_pay23]

theorem store1_0 (h3 : ∀ b j, (x3 (ix3 0 b j)).toNat < 2 ^ 31) (h : Fin 32) (l : Fin 128) :
    k0_pay29 (F := Ideal) (k0_pay28 (k0_pay6 (View.ld x3 r0_1)) (kept1 x1 x3) 128#32 k0_pay24) (ix3 0 h l) = tab1 x1 x3 (ix3 0 h l) := by
  rw [← sum1 x1 x3 h3]
  pointwise [k0_pay29, k0_pay28]; rfl

theorem store1_1 (h3 : ∀ b j, (x3 (ix3 0 b j)).toNat < 2 ^ 31) (h : Fin 32) (l : Fin 128) :
    k0_pay30 (F := Ideal) (rows1 x1 x3) (cols1 x3) (ix3 0 h l) = tab1 x1 x3 (ix3 1 h l) := by
  rw [← sum1 x1 x3 h3]
  pointwise [k0_pay30]

theorem store1_2 (h3 : ∀ b j, (x3 (ix3 0 b j)).toNat < 2 ^ 31) (h : Fin 32) (l : Fin 128) :
    k0_pay31 (F := Ideal) (rows1 x1 x3) (cols1 x3) (ix3 0 h l) = tab1 x1 x3 (ix3 2 h l) := by
  rw [← sum1 x1 x3 h3]
  pointwise [k0_pay31]

theorem store1_3 (h3 : ∀ b j, (x3 (ix3 0 b j)).toNat < 2 ^ 31) (h : Fin 32) (l : Fin 128) :
    k0_pay32 (F := Ideal) (rows1 x1 x3) (cols1 x3) (ix3 0 h l) = tab1 x1 x3 (ix3 3 h l) := by
  rw [← sum1 x1 x3 h3]
  pointwise [k0_pay32]

theorem store1_4 (h3 : ∀ b j, (x3 (ix3 0 b j)).toNat < 2 ^ 31) (h : Fin 32) (l : Fin 128) :
    k0_pay33 (F := Ideal) (rows1 x1 x3) (cols1 x3) (ix3 0 h l) = tab1 x1 x3 (ix3 4 h l) := by
  rw [← sum1 x1 x3 h3]
  pointwise [k0_pay33]

theorem store1_5 (h3 : ∀ b j, (x3 (ix3 0 b j)).toNat < 2 ^ 31) (h : Fin 32) (l : Fin 128) :
    k0_pay1 (F := Ideal) (k0_pay34 (rows1 x1 x3)) (k0_pay35 (cols1 x3)) (ix3 0 h l) = tab1 x1 x3 (ix3 5 h l) := by
  rw [← sum1 x1 x3 h3]
  pointwise [k0_pay1, k0_pay34, k0_pay35]

theorem store1_6 (h3 : ∀ b j, (x3 (ix3 0 b j)).toNat < 2 ^ 31) (h : Fin 32) (l : Fin 128) :
    k0_pay2 (F := Ideal) (rows1 x1 x3) (cols1 x3) (ix3 0 h l) = tab1 x1 x3 (ix3 6 h l) := by
  rw [← sum1 x1 x3 h3]
  pointwise [k0_pay2]

theorem store1_7 (h3 : ∀ b j, (x3 (ix3 0 b j)).toNat < 2 ^ 31) (h : Fin 32) (l : Fin 128) :
    k0_pay3 (F := Ideal) (rows1 x1 x3) (cols1 x3) (ix3 0 h l) = tab1 x1 x3 (ix3 7 h l) := by
  rw [← sum1 x1 x3 h3]
  pointwise [k0_pay3]

/-- The first table's block after the body, entry by entry. -/
theorem block0 (hx : ∀ b j, (x2 (ix3 0 b j)).toNat < 2 ^ 31) (y : S8x32x512.Idx) :
    out0_4 (F := Ideal) x0 x1 x2 x3 y = tab0 x0 x2 y := by
  unfold out0_4
  refine View.canon_apply_of_pieces (Val := Elt Ideal) (tab0 x0 x2) _ (fun p hp x => ?_) y (cover0_4 _ _ _ _ _ _ _ _ y)
  simp only [List.mem_cons, List.not_mem_nil, or_false] at hp
  rcases hp with rfl | rfl | rfl | rfl | rfl | rfl | rfl | rfl
  · obtain ⟨a, h, l, rfl⟩ : ∃ (a : Fin 1) (h : Fin 32) (l : Fin 512), x = ix3 a h l := ⟨x 0, x 1, x 2, by idx_vars x⟩
    obtain rfl : a = 0 := Subsingleton.elim _ _
    refine (store0_7 x0 x2 hx h l).trans (congrArg (tab0 x0 x2) ?_)
    funext q; fin_cases q <;> refine Fin.ext ?_ <;> simp [Rect.unit, Rect.emb, ix3]
  · obtain ⟨a, h, l, rfl⟩ : ∃ (a : Fin 1) (h : Fin 32) (l : Fin 512), x = ix3 a h l := ⟨x 0, x 1, x 2, by idx_vars x⟩
    obtain rfl : a = 0 := Subsingleton.elim _ _
    refine (store0_6 x0 x2 hx h l).trans (congrArg (tab0 x0 x2) ?_)
    funext q; fin_cases q <;> refine Fin.ext ?_ <;> simp [Rect.unit, Rect.emb, ix3]
  · obtain ⟨a, h, l, rfl⟩ : ∃ (a : Fin 1) (h : Fin 32) (l : Fin 512), x = ix3 a h l := ⟨x 0, x 1, x 2, by idx_vars x⟩
    obtain rfl : a = 0 := Subsingleton.elim _ _
    refine (store0_5 x0 x2 hx h l).trans (congrArg (tab0 x0 x2) ?_)
    funext q; fin_cases q <;> refine Fin.ext ?_ <;> simp [Rect.unit, Rect.emb, ix3]
  · obtain ⟨a, h, l, rfl⟩ : ∃ (a : Fin 1) (h : Fin 32) (l : Fin 512), x = ix3 a h l := ⟨x 0, x 1, x 2, by idx_vars x⟩
    obtain rfl : a = 0 := Subsingleton.elim _ _
    refine (store0_4 x0 x2 hx h l).trans (congrArg (tab0 x0 x2) ?_)
    funext q; fin_cases q <;> refine Fin.ext ?_ <;> simp [Rect.unit, Rect.emb, ix3]
  · obtain ⟨a, h, l, rfl⟩ : ∃ (a : Fin 1) (h : Fin 32) (l : Fin 512), x = ix3 a h l := ⟨x 0, x 1, x 2, by idx_vars x⟩
    obtain rfl : a = 0 := Subsingleton.elim _ _
    refine (store0_3 x0 x2 hx h l).trans (congrArg (tab0 x0 x2) ?_)
    funext q; fin_cases q <;> refine Fin.ext ?_ <;> simp [Rect.unit, Rect.emb, ix3]
  · obtain ⟨a, h, l, rfl⟩ : ∃ (a : Fin 1) (h : Fin 32) (l : Fin 512), x = ix3 a h l := ⟨x 0, x 1, x 2, by idx_vars x⟩
    obtain rfl : a = 0 := Subsingleton.elim _ _
    refine (store0_2 x0 x2 hx h l).trans (congrArg (tab0 x0 x2) ?_)
    funext q; fin_cases q <;> refine Fin.ext ?_ <;> simp [Rect.unit, Rect.emb, ix3]
  · obtain ⟨a, h, l, rfl⟩ : ∃ (a : Fin 1) (h : Fin 32) (l : Fin 512), x = ix3 a h l := ⟨x 0, x 1, x 2, by idx_vars x⟩
    obtain rfl : a = 0 := Subsingleton.elim _ _
    refine (store0_1 x0 x2 hx h l).trans (congrArg (tab0 x0 x2) ?_)
    funext q; fin_cases q <;> refine Fin.ext ?_ <;> simp [Rect.unit, Rect.emb, ix3]
  · obtain ⟨a, h, l, rfl⟩ : ∃ (a : Fin 1) (h : Fin 32) (l : Fin 512), x = ix3 a h l := ⟨x 0, x 1, x 2, by idx_vars x⟩
    obtain rfl : a = 0 := Subsingleton.elim _ _
    refine (store0_0 x0 x2 hx h l).trans (congrArg (tab0 x0 x2) ?_)
    funext q; fin_cases q <;> refine Fin.ext ?_ <;> simp [Rect.unit, Rect.emb, ix3]

/-- The second table's block after the body, entry by entry. -/
theorem block1 (hx : ∀ b j, (x3 (ix3 0 b j)).toNat < 2 ^ 31) (y : S8x32x128.Idx) :
    out0_5 (F := Ideal) x0 x1 x2 x3 y = tab1 x1 x3 y := by
  unfold out0_5
  refine View.canon_apply_of_pieces (Val := Elt Ideal) (tab1 x1 x3) _ (fun p hp x => ?_) y (cover0_5 _ _ _ _ _ _ _ _ y)
  simp only [List.mem_cons, List.not_mem_nil, or_false] at hp
  rcases hp with rfl | rfl | rfl | rfl | rfl | rfl | rfl | rfl
  · obtain ⟨a, h, l, rfl⟩ : ∃ (a : Fin 1) (h : Fin 32) (l : Fin 128), x = ix3 a h l := ⟨x 0, x 1, x 2, by idx_vars x⟩
    obtain rfl : a = 0 := Subsingleton.elim _ _
    refine (store1_7 x1 x3 hx h l).trans (congrArg (tab1 x1 x3) ?_)
    funext q; fin_cases q <;> refine Fin.ext ?_ <;> simp [Rect.unit, Rect.emb, ix3]
  · obtain ⟨a, h, l, rfl⟩ : ∃ (a : Fin 1) (h : Fin 32) (l : Fin 128), x = ix3 a h l := ⟨x 0, x 1, x 2, by idx_vars x⟩
    obtain rfl : a = 0 := Subsingleton.elim _ _
    refine (store1_6 x1 x3 hx h l).trans (congrArg (tab1 x1 x3) ?_)
    funext q; fin_cases q <;> refine Fin.ext ?_ <;> simp [Rect.unit, Rect.emb, ix3]
  · obtain ⟨a, h, l, rfl⟩ : ∃ (a : Fin 1) (h : Fin 32) (l : Fin 128), x = ix3 a h l := ⟨x 0, x 1, x 2, by idx_vars x⟩
    obtain rfl : a = 0 := Subsingleton.elim _ _
    refine (store1_5 x1 x3 hx h l).trans (congrArg (tab1 x1 x3) ?_)
    funext q; fin_cases q <;> refine Fin.ext ?_ <;> simp [Rect.unit, Rect.emb, ix3]
  · obtain ⟨a, h, l, rfl⟩ : ∃ (a : Fin 1) (h : Fin 32) (l : Fin 128), x = ix3 a h l := ⟨x 0, x 1, x 2, by idx_vars x⟩
    obtain rfl : a = 0 := Subsingleton.elim _ _
    refine (store1_4 x1 x3 hx h l).trans (congrArg (tab1 x1 x3) ?_)
    funext q; fin_cases q <;> refine Fin.ext ?_ <;> simp [Rect.unit, Rect.emb, ix3]
  · obtain ⟨a, h, l, rfl⟩ : ∃ (a : Fin 1) (h : Fin 32) (l : Fin 128), x = ix3 a h l := ⟨x 0, x 1, x 2, by idx_vars x⟩
    obtain rfl : a = 0 := Subsingleton.elim _ _
    refine (store1_3 x1 x3 hx h l).trans (congrArg (tab1 x1 x3) ?_)
    funext q; fin_cases q <;> refine Fin.ext ?_ <;> simp [Rect.unit, Rect.emb, ix3]
  · obtain ⟨a, h, l, rfl⟩ : ∃ (a : Fin 1) (h : Fin 32) (l : Fin 128), x = ix3 a h l := ⟨x 0, x 1, x 2, by idx_vars x⟩
    obtain rfl : a = 0 := Subsingleton.elim _ _
    refine (store1_2 x1 x3 hx h l).trans (congrArg (tab1 x1 x3) ?_)
    funext q; fin_cases q <;> refine Fin.ext ?_ <;> simp [Rect.unit, Rect.emb, ix3]
  · obtain ⟨a, h, l, rfl⟩ : ∃ (a : Fin 1) (h : Fin 32) (l : Fin 128), x = ix3 a h l := ⟨x 0, x 1, x 2, by idx_vars x⟩
    obtain rfl : a = 0 := Subsingleton.elim _ _
    refine (store1_1 x1 x3 hx h l).trans (congrArg (tab1 x1 x3) ?_)
    funext q; fin_cases q <;> refine Fin.ext ?_ <;> simp [Rect.unit, Rect.emb, ix3]
  · obtain ⟨a, h, l, rfl⟩ : ∃ (a : Fin 1) (h : Fin 32) (l : Fin 128), x = ix3 a h l := ⟨x 0, x 1, x 2, by idx_vars x⟩
    obtain rfl : a = 0 := Subsingleton.elim _ _
    refine (store1_0 x1 x3 hx h l).trans (congrArg (tab1 x1 x3) ?_)
    funext q; fin_cases q <;> refine Fin.ext ?_ <;> simp [Rect.unit, Rect.emb, ix3]

end Cert.Value

end
-- ==== Proof.Value.Call0.lean ====
/- The two tables the first call leaves, entry by entry, over what it finds in its arrays. -/
module

public import proofs.«01_k».proof.Proof.Value.Block0

@[expose] public section

set_option maxRecDepth 16384

noncomputable section

namespace Cert.Value

open Idealize.ShloMosaic Idealize.ShloMosaic.TcCoe
open Cert.KernelIdeal Cert.KernelIdeal.Gen Cert.KernelIdeal.Run
open Idealize.ShloMosaic.Pipeline (Dat)

theorem index0_0 : ∀ t : Fin cfg0.N, win0_0.index t = ![t.val, 0, 0] := by decide +kernel
theorem index0_1 : ∀ t : Fin cfg0.N, win0_1.index t = ![t.val, 0, 0] := by decide +kernel
theorem index0_2 : ∀ t : Fin cfg0.N, win0_2.index t = ![t.val, 0, 0] := by decide +kernel
theorem index0_3 : ∀ t : Fin cfg0.N, win0_3.index t = ![t.val, 0, 0] := by decide +kernel
theorem index0_4 : ∀ t : Fin cfg0.N, win0_4.index t = ![t.val, 0, 0] := by decide +kernel
theorem index0_5 : ∀ t : Fin cfg0.N, win0_5.index t = ![t.val, 0, 0] := by decide +kernel
theorem points0 : cfg0.N = 32 := by decide +kernel

/-- Row `b` of block `t`. -/
def rowAt (t : Fin cfg0.N) (b : Fin 8) : Fin 256 := ⟨t.val * 8 + b.val, by have := t.isLt; have h := points0; omega⟩

variable (V : (c : Dev nD) → (b : Ref sig .tc) → Buf (Elt Ideal) ((c : Thread nD τ).loc b)) (c : Dev nD)

theorem iblk0_0_apply (t : Fin cfg0.N) (b : Fin 8) (p : Fin 64) (j : Fin 512) :
    iblk0 V c 0 t (ix3 b p j) = V c main_v1 (ix3 (rowAt t b) p j) := by
  show V c main_v1 ((win0_0.rect t).emb (ix3 b p j)) = _
  refine congrArg (V c main_v1) (funext fun a => Fin.ext ?_)
  refine (Pipeline.Window.rect_emb_val win0_0 t (ix3 b p j) a).trans ?_
  rw [index0_0 t]
  fin_cases a <;> simp [rowAt, ix3]

theorem iblk0_1_apply (t : Fin cfg0.N) (b : Fin 8) (p : Fin 64) (j : Fin 512) :
    iblk0 V c 1 t (ix3 b p j) = V c main_v3 (ix3 (rowAt t b) p j) := by
  show V c main_v3 ((win0_1.rect t).emb (ix3 b p j)) = _
  refine congrArg (V c main_v3) (funext fun a => Fin.ext ?_)
  refine (Pipeline.Window.rect_emb_val win0_1 t (ix3 b p j) a).trans ?_
  rw [index0_1 t]
  fin_cases a <;> simp [rowAt, ix3]

/-- The block's number as a row of the reshaped words. -/
def blkAt (t : Fin cfg0.N) : Fin 32 := ⟨t.val, by have := t.isLt; have h := points0; omega⟩

theorem iblk0_2_apply (t : Fin cfg0.N) (b : Fin 8) (j : Fin 512) :
    iblk0 V c 2 t (ix3 0 b j) = V c main_v4 (ix3 (blkAt t) b j) := by
  show V c main_v4 ((win0_2.rect t).emb (ix3 0 b j)) = _
  refine congrArg (V c main_v4) (funext fun a => Fin.ext ?_)
  refine (Pipeline.Window.rect_emb_val win0_2 t (ix3 0 b j) a).trans ?_
  rw [index0_2 t]
  fin_cases a <;> simp [blkAt, ix3]

theorem iblk0_3_apply (t : Fin cfg0.N) (b : Fin 8) (j : Fin 512) :
    iblk0 V c 3 t (ix3 0 b j) = V c main_v5 (ix3 (blkAt t) b j) := by
  show V c main_v5 ((win0_3.rect t).emb (ix3 0 b j)) = _
  refine congrArg (V c main_v5) (funext fun a => Fin.ext ?_)
  refine (Pipeline.Window.rect_emb_val win0_3 t (ix3 0 b j) a).trans ?_
  rw [index0_3 t]
  fin_cases a <;> simp [blkAt, ix3]

/-- A feature's words, found at a row of the array. -/
def wordsAt (v : IVec S32x8x512 32) (r : Fin 256) (i : Fin 512) : BitVec 32 :=
  v (ix3 (⟨r.val / 8, by omega⟩ : Fin 32) (⟨r.val % 8, by omega⟩ : Fin 8) i)

/-- A row's pooled features. -/
def poolAt (x : Vec Ideal S256x64x512 .f32) (r : Fin 256) (j : Fin 512) : EReal :=
  (∑ p : Fin 64, x (ix3 r p j)) * Ideal.ofBits FTy.f32 1015021568#32

/-- What the first table ends holding. -/
def table0 : S256x32x512.Idx → EReal := fun y =>
  scat (wordsAt (V c main_v4) (y 0)) (poolAt (V c main_v1) (y 0)) ((y 1).val * 512 + (y 2).val)

/-- What the second table ends holding. -/
def table1 : S256x32x128.Idx → EReal := fun y =>
  scat (wordsAt (V c main_v5) (y 0)) (poolAt (V c main_v3) (y 0)) ((y 1).val * 128 + (y 2).val)

theorem wordsAt_rowAt (v : IVec S32x8x512 32) (t : Fin cfg0.N) (b : Fin 8) (i : Fin 512) :
    wordsAt v (rowAt t b) i = v (ix3 (blkAt t) b i) := by
  unfold wordsAt
  have h1 : (⟨(rowAt t b).val / 8, by omega⟩ : Fin 32) = blkAt t := Fin.ext (by simp only [rowAt, blkAt]; omega)
  have h2 : (⟨(rowAt t b).val % 8, by omega⟩ : Fin 8) = b := Fin.ext (by simp only [rowAt]; omega)
  rw [h1, h2]

theorem flushed0_4 (h : ∀ t b j, (V c main_v4 (ix3 t b j) : BitVec 32).toNat < 2 ^ 31) (t : Fin cfg0.N) :
    (dat0 V c).flushed 4 t = ((cfg0.win 4).blk t).view.read (Elt Ideal) (table0 V c) := by
  show (cfg0.win 4).cut (grid0.coords t) ((dat0 V c).after 4 t) = _
  rw [after0_4]
  funext y
  refine (block0 _ _ _ _ (fun b j => by rw [iblk0_2_apply]; exact h _ _ _) _).trans ?_
  obtain ⟨b, q, l, rfl⟩ : ∃ (b : Fin 8) (q : Fin 32) (l : Fin 512), y = ix3 b q l := ⟨y 0, y 1, y 2, by idx_vars y⟩
  show tab0 _ _ (ix3 b q l) = table0 V c ((win0_4.rect t).emb (ix3 b q l))
  have e : (win0_4.rect t).emb (ix3 b q l) = ix3 (rowAt t b) q l := by
    funext a
    refine Fin.ext ?_
    refine (Pipeline.Window.rect_emb_val win0_4 t (ix3 b q l) a).trans ?_
    rw [index0_4 t]
    fin_cases a <;> simp [rowAt, ix3]
  rw [e]
  unfold tab0 table0
  congr 1
  · funext i
    exact (iblk0_2_apply V c t b i).trans (wordsAt_rowAt _ t b i).symm
  · funext i
    unfold pool poolAt
    exact congrArg (· * _) (Finset.sum_congr rfl fun p _ => iblk0_0_apply V c t b p i)

theorem flushed0_5 (h : ∀ t b j, (V c main_v5 (ix3 t b j) : BitVec 32).toNat < 2 ^ 31) (t : Fin cfg0.N) :
    (dat0 V c).flushed 5 t = ((cfg0.win 5).blk t).view.read (Elt Ideal) (table1 V c) := by
  show (cfg0.win 5).cut (grid0.coords t) ((dat0 V c).after 5 t) = _
  rw [after0_5]
  funext y
  refine (block1 _ _ _ _ (fun b j => by rw [iblk0_3_apply]; exact h _ _ _) _).trans ?_
  obtain ⟨b, q, l, rfl⟩ : ∃ (b : Fin 8) (q : Fin 32) (l : Fin 128), y = ix3 b q l := ⟨y 0, y 1, y 2, by idx_vars y⟩
  show tab1 _ _ (ix3 b q l) = table1 V c ((win0_5.rect t).emb (ix3 b q l))
  have e : (win0_5.rect t).emb (ix3 b q l) = ix3 (rowAt t b) q l := by
    funext a
    refine Fin.ext ?_
    refine (Pipeline.Window.rect_emb_val win0_5 t (ix3 b q l) a).trans ?_
    rw [index0_5 t]
    fin_cases a <;> simp [rowAt, ix3]
  rw [e]
  unfold tab1 table1
  congr 1
  · funext i
    exact (iblk0_3_apply V c t b i).trans (wordsAt_rowAt _ t b i).symm
  · funext i
    unfold pool poolAt
    exact congrArg (· * _) (Finset.sum_congr rfl fun p _ => iblk0_1_apply V c t b p i)

theorem mem_of_eq {α : Type} {s : Finset α} {i j : α} (e : i = j) (h : j ∈ s) : i ∈ s := e ▸ h

theorem cover0_out4 (i : S256x32x512.Idx) : ∃ t : Fin cfg0.N, (cfg0.win 4).flush t = true ∧ i ∈ ((cfg0.win 4).blk t).view.set := by
  have h0 : (i 0 : Nat) < 256 := (i 0).isLt
  have ht : (i 0 : Nat) / 8 < cfg0.N := by rw [points0]; omega
  refine ⟨⟨(i 0 : Nat) / 8, ht⟩, flush0_4 _, ?_⟩
  have e : i = (win0_4.rect ⟨(i 0 : Nat) / 8, ht⟩).emb (ix3 (⟨(i 0 : Nat) % 8, by omega⟩ : Fin 8) (i 1 : Fin 32) (i 2 : Fin 512)) := by
    funext a
    refine Fin.ext ?_
    refine Eq.trans ?_ (Pipeline.Window.rect_emb_val win0_4 ⟨(i 0 : Nat) / 8, ht⟩ (ix3 _ _ _) a).symm
    rw [index0_4]
    fin_cases a <;> simp [ix3] <;> omega
  exact mem_of_eq e (View.emb_mem_set ((cfg0.win 4).blk ⟨_, ht⟩).view _)

theorem cover0_out5 (i : S256x32x128.Idx) : ∃ t : Fin cfg0.N, (cfg0.win 5).flush t = true ∧ i ∈ ((cfg0.win 5).blk t).view.set := by
  have h0 : (i 0 : Nat) < 256 := (i 0).isLt
  have ht : (i 0 : Nat) / 8 < cfg0.N := by rw [points0]; omega
  refine ⟨⟨(i 0 : Nat) / 8, ht⟩, flush0_5 _, ?_⟩
  have e : i = (win0_5.rect ⟨(i 0 : Nat) / 8, ht⟩).emb (ix3 (⟨(i 0 : Nat) % 8, by omega⟩ : Fin 8) (i 1 : Fin 32) (i 2 : Fin 128)) := by
    funext a
    refine Fin.ext ?_
    refine Eq.trans ?_ (Pipeline.Window.rect_emb_val win0_5 ⟨(i 0 : Nat) / 8, ht⟩ (ix3 _ _ _) a).symm
    rw [index0_5]
    fin_cases a <;> simp [ix3] <;> omega
  exact mem_of_eq e (View.emb_mem_set ((cfg0.win 5).blk ⟨_, ht⟩).view _)

/-- The first call leaves the first table, -/
theorem final0_4 (h : ∀ t b j, (V c main_v4 (ix3 t b j) : BitVec 32).toNat < 2 ^ 31) : (dat0 V c).arrAt 4 cfg0.N = table0 V c :=
  (dat0 V c).arrAt_eq_of_cover 4 (table0 V c) (fun t _ => flushed0_4 V c h t) cover0_out4

/-- and the second. -/
theorem final0_5 (h : ∀ t b j, (V c main_v5 (ix3 t b j) : BitVec 32).toNat < 2 ^ 31) : (dat0 V c).arrAt 5 cfg0.N = table1 V c :=
  (dat0 V c).arrAt_eq_of_cover 5 (table1 V c) (fun t _ => flushed0_5 V c h t) cover0_out5

end Cert.Value

end
-- ==== Proof.Value.Call1.lean ====
/- The hidden layer the second call leaves: the sum over all 16384 columns, taken in eight parts, the bias, the sigmoid. -/
module

public import proofs.«01_k».proof.Proof.Run.Region1
public import Idealize.ShloMosaic.Lib.Pipeline.Value
public import Idealize.ShloMosaic.Lib.Pointwise

@[expose] public section

set_option maxRecDepth 16384

noncomputable section

namespace Cert.Value

open Idealize.ShloMosaic Idealize.ShloMosaic.TcCoe
open Cert.KernelIdeal Cert.KernelIdeal.Gen Cert.KernelIdeal.Run
open Idealize.ShloMosaic.Pipeline (Dat)

/-- A sum taken in `m` blocks of `n`. -/
theorem sum_blocks {M : Type} [AddCommMonoid M] (G : ℕ → M) (n : ℕ) : ∀ m : ℕ,
    ∑ s ∈ Finset.range m, ∑ k : Fin n, G (s * n + k.val) = ∑ k ∈ Finset.range (m * n), G k
  | 0 => by simp
  | m + 1 => by
    rw [Finset.sum_range_succ, sum_blocks G n m, Nat.succ_mul, Finset.sum_range_add]
    rw [Fin.sum_univ_eq_sum_range fun k => G (m * n + k)]

theorem index1_0 : ∀ t : Fin cfg1.N, win1_0.index t = ![0, t.val % 8] := by decide +kernel
theorem index1_1 : ∀ t : Fin cfg1.N, win1_1.index t = ![t.val / 8, t.val % 8] := by decide +kernel
theorem index1_2 : ∀ t : Fin cfg1.N, win1_2.index t = ![0, t.val / 8] := by decide +kernel
theorem index1_3 : ∀ t : Fin cfg1.N, win1_3.index t = ![0, t.val / 8] := by decide +kernel
theorem points1 : cfg1.N = 16 := by decide +kernel

/-- Column `k` of the point's part of the sum. -/
def partAt (t : Fin cfg1.N) (k : Fin 2048) : Fin 16384 := ⟨t.val % 8 * 2048 + k.val, by omega⟩
/-- Column `q` of the point's half of the result. -/
def halfAt (t : Fin cfg1.N) (q : Fin 2048) : Fin 4096 := ⟨t.val / 8 * 2048 + q.val, by have := t.isLt; have h := points1; omega⟩

theorem emb1_0 (t : Fin cfg1.N) (r : Fin 256) (k : Fin 2048) : (win1_0.rect t).emb (ix2 r k) = ix2 r (partAt t k) := by
  funext a
  refine Fin.ext ((Pipeline.Window.rect_emb_val win1_0 t (ix2 r k) a).trans ?_)
  rw [index1_0 t]
  fin_cases a <;> simp [partAt, ix2]
theorem emb1_1 (t : Fin cfg1.N) (q : Fin 2048) (k : Fin 2048) : (win1_1.rect t).emb (ix2 q k) = ix2 (halfAt t q) (partAt t k) := by
  funext a
  refine Fin.ext ((Pipeline.Window.rect_emb_val win1_1 t (ix2 q k) a).trans ?_)
  rw [index1_1 t]
  fin_cases a <;> simp [partAt, halfAt, ix2]
theorem emb1_2 (t : Fin cfg1.N) (q : Fin 2048) : (win1_2.rect t).emb (ix2 0 q) = ix2 0 (halfAt t q) := by
  funext a
  refine Fin.ext ((Pipeline.Window.rect_emb_val win1_2 t (ix2 0 q) a).trans ?_)
  rw [index1_2 t]
  fin_cases a <;> simp [halfAt, ix2]
theorem emb1_3 (t : Fin cfg1.N) (r : Fin 256) (q : Fin 2048) : (win1_3.rect t).emb (ix2 r q) = ix2 r (halfAt t q) := by
  funext a
  refine Fin.ext ((Pipeline.Window.rect_emb_val win1_3 t (ix2 r q) a).trans ?_)
  rw [index1_3 t]
  fin_cases a <;> simp [halfAt, ix2]

variable (V : (c : Dev nD) → (b : Ref sig .tc) → Buf (Elt Ideal) ((c : Thread nD τ).loc b)) (c : Dev nD)

/-- The scattered table, the weights and the bias as the call finds them. -/
def tableIn : S256x16384.Idx → EReal := V c main_v7
def weightIn : S4096x16384.Idx → EReal := V c main_arg2
def biasIn : S1x4096.Idx → EReal := V c main_v9

theorem iblk1_0_apply (t : Fin cfg1.N) (r : Fin 256) (k : Fin 2048) :
    iblk1 V c 0 t (ix2 r k) = tableIn V c (ix2 r (partAt t k)) := congrArg (tableIn V c) (emb1_0 t r k)
theorem iblk1_1_apply (t : Fin cfg1.N) (q : Fin 2048) (k : Fin 2048) :
    iblk1 V c 1 t (ix2 q k) = weightIn V c (ix2 (halfAt t q) (partAt t k)) := congrArg (weightIn V c) (emb1_1 t q k)
theorem iblk1_2_apply (t : Fin cfg1.N) (q : Fin 2048) :
    iblk1 V c 2 t (ix2 0 q) = biasIn V c (ix2 0 (halfAt t q)) := congrArg (biasIn V c) (emb1_2 t q)

/-- One product of the sum, by its column's number. -/
def prodAt (r : Fin 256) (q : Fin 4096) (k : ℕ) : EReal :=
  if h : k < 16384 then tableIn V c (ix2 r ⟨k, h⟩) * weightIn V c (ix2 q ⟨k, h⟩) else 0

theorem pay1_apply (x0 : Vec Ideal S256x2048 .bf16) (x1 : Vec Ideal S2048x2048 .f32) (r : Fin 256) (q : Fin 2048) :
    k1_pay2 (F := Ideal) x0 x1 (ix2 r q) = ∑ k : Fin 2048, x0 (ix2 r k) * x1 (ix2 q k) := by
  pointwise [k1_pay2, k1_pay1]
theorem pay3_apply (x0 : Vec Ideal S256x2048 .bf16) (x1 : Vec Ideal S2048x2048 .f32) (a : Vec Ideal S256x2048 .f32) (r : Fin 256) (q : Fin 2048) :
    k1_pay3 (F := Ideal) x0 x1 a (ix2 r q) = a (ix2 r q) + ∑ k : Fin 2048, x0 (ix2 r k) * x1 (ix2 q k) := by
  pointwise [k1_pay3, k1_pay1]
theorem pay4_apply (a : Vec Ideal S256x2048 .f32) (x : Vec Ideal S1x2048 .f32) (r : Fin 256) (q : Fin 2048) :
    k1_pay4 (F := Ideal) a x (ix2 r q) = Ideal.logistic (a (ix2 r q) + x (ix2 0 q)) := by
  pointwise [k1_pay4]

/-- The point's blocks of the table and of the weights. -/
def tablePart (t : Fin cfg1.N) : Vec Ideal S256x2048 .bf16 := iblk1 V c 0 t
def weightPart (t : Fin cfg1.N) : Vec Ideal S2048x2048 .f32 := iblk1 V c 1 t

theorem part_sum (t : Fin cfg1.N) (r : Fin 256) (q : Fin 2048) :
    ∑ k : Fin 2048, tablePart V c t (ix2 r k) * weightPart V c t (ix2 q k)
      = ∑ k : Fin 2048, prodAt V c r (halfAt t q) (t.val % 8 * 2048 + k.val) := by
  refine Finset.sum_congr rfl fun k _ => ?_
  unfold prodAt
  rw [dif_pos (show t.val % 8 * 2048 + k.val < 16384 from (partAt t k).isLt)]
  exact congrArg₂ (· * ·) (iblk1_0_apply V c t r k) (iblk1_1_apply V c t q k)

/-- The accumulator after a point: the parts of the sum up to that point's. -/
theorem acc1_apply (r : Fin 256) (q : Fin 2048) : ∀ (n : ℕ) (hn : n < cfg1.N),
    acc1 V c n hn (ix2 r q)
      = ∑ s ∈ Finset.range (n % 8 + 1), ∑ k : Fin 2048, prodAt V c r (halfAt ⟨n, hn⟩ q) (s * 2048 + k.val) := by
  intro n
  induction n with
  | zero =>
    intro hn
    refine (congrFun (acc1_first V c ⟨0, hn⟩ rfl) _).trans ((pay1_apply _ _ r q).trans ((part_sum V c ⟨0, hn⟩ r q).trans ?_))
    simp
  | succ n ih =>
    intro hn
    by_cases h : (n + 1) % 8 = 0
    · refine (congrFun (acc1_first V c ⟨n + 1, hn⟩ h) _).trans ((pay1_apply _ _ r q).trans ((part_sum V c ⟨n + 1, hn⟩ r q).trans ?_))
      simp [h]
    · refine (congrFun (acc1_later V c ⟨n + 1, hn⟩ h) _).trans ((pay3_apply _ _ _ r q).trans ?_)
      rw [Finset.sum_range_succ]
      refine congrArg₂ (· + ·) ?_ (part_sum V c ⟨n + 1, hn⟩ r q)
      refine (ih (Nat.lt_of_succ_lt hn)).trans ?_
      have e1 : n % 8 + 1 = (n + 1) % 8 := by omega
      have e2 : halfAt ⟨n, Nat.lt_of_succ_lt hn⟩ q = halfAt ⟨n + 1, hn⟩ q := Fin.ext (by simp only [halfAt]; omega)
      rw [e1, e2]

/-- The hidden layer the call leaves. -/
def hidden : S256x4096.Idx → EReal := fun y =>
  Ideal.logistic ((∑ k : Fin 16384, tableIn V c (ix2 (y 0) k) * weightIn V c (ix2 (y 1) k)) + biasIn V c (ix2 0 (y 1)))

theorem hidden_apply (r : Fin 256) (q : Fin 4096) : hidden V c (ix2 r q)
    = Ideal.logistic ((∑ k : Fin 16384, tableIn V c (ix2 r k) * weightIn V c (ix2 q k)) + biasIn V c (ix2 0 q)) := rfl

theorem sum_prodAt (r : Fin 256) (q : Fin 4096) :
    ∑ s ∈ Finset.range (7 + 1), ∑ k : Fin 2048, prodAt V c r q (s * 2048 + k.val)
      = ∑ k : Fin 16384, tableIn V c (ix2 r k) * weightIn V c (ix2 q k) := by
  rw [sum_blocks (prodAt V c r q) 2048 8, ← Fin.sum_univ_eq_sum_range]
  refine Finset.sum_congr rfl fun k _ => ?_
  unfold prodAt
  rw [dif_pos (show k.val < 16384 from k.isLt)]

theorem flushed1_3 (t : Fin cfg1.N) (ht : t.val % 8 = 7) :
    (dat1 V c).flushed 3 t = ((cfg1.win 3).blk t).view.read (Elt Ideal) (hidden V c) := by
  show (cfg1.win 3).cut (grid1.coords t) ((dat1 V c).after 3 t) = _
  rw [after1_3]
  funext y
  obtain ⟨r, q, rfl⟩ : ∃ (r : Fin 256) (q : Fin 2048), y = ix2 r q := ⟨y 0, y 1, by idx_vars y⟩
  refine (pay4_apply _ _ r q).trans ?_
  have e1 : acc1 V c t.val t.isLt (ix2 r q) = ∑ k : Fin 16384, tableIn V c (ix2 r k) * weightIn V c (ix2 (halfAt t q) k) := by
    rw [acc1_apply, ht, sum_prodAt]
  refine (congrArg Ideal.logistic (congrArg₂ (· + ·) e1 (iblk1_2_apply V c t q))).trans ((hidden_apply V c r (halfAt t q)).symm.trans ?_)
  generalize hidden V c = G
  exact (congrArg G (emb1_3 t r q)).symm

theorem mem_of_emb {α : Type} {s : Finset α} {i j : α} (e : j = i) (h : j ∈ s) : i ∈ s := e ▸ h

theorem cover1_out3 (i : S256x4096.Idx) : ∃ t : Fin cfg1.N, (cfg1.win 3).flush t = true ∧ i ∈ ((cfg1.win 3).blk t).view.set := by
  have h1 : (i 1 : Nat) < 4096 := (i 1).isLt
  have ht : (i 1 : Nat) / 2048 * 8 + 7 < cfg1.N := by rw [points1]; omega
  refine ⟨⟨_, ht⟩, (flush1_3 _).mpr (by show ((i 1 : Nat) / 2048 * 8 + 7) % 8 = 7; omega), ?_⟩
  have e : (win1_3.rect ⟨_, ht⟩).emb (ix2 (i 0 : Fin 256) (⟨(i 1 : Nat) % 2048, by omega⟩ : Fin 2048)) = i := by
    refine (emb1_3 _ _ _).trans ?_
    funext a
    refine Fin.ext ?_
    fin_cases a
    · rfl
    · show ((i 1 : Nat) / 2048 * 8 + 7) / 8 * 2048 + (i 1 : Nat) % 2048 = (i 1 : Nat)
      omega
  exact mem_of_emb e (View.emb_mem_set ((cfg1.win 3).blk ⟨_, ht⟩).view _)

/-- The second call leaves the hidden layer. -/
theorem final1_3 : (dat1 V c).arrAt 3 cfg1.N = hidden V c :=
  (dat1 V c).arrAt_eq_of_cover 3 (hidden V c) (fun t h => flushed1_3 V c t ((flush1_3 t).mp h)) cover1_out3

end Cert.Value

end
-- ==== Proof.Value.Call2.lean ====
/- What the third call leaves: the class probabilities, and for each half of the rows the sums of the two losses' terms. -/
module

public import proofs.«01_k».proof.Proof.Run.Region2
public import proofs.«01_k».proof.Proof.Value.Call1
public import Idealize.ShloMosaic.Lib.Pipeline.Value
public import Idealize.ShloMosaic.Lib.Pointwise

@[expose] public section

set_option maxRecDepth 16384

noncomputable section

namespace Cert.Value

open Idealize.ShloMosaic Idealize.ShloMosaic.TcCoe
open Cert.KernelIdeal Cert.KernelIdeal.Gen Cert.KernelIdeal.Run
open Idealize.ShloMosaic.Pipeline (Dat)

theorem index2_0 : ∀ t : Fin cfg2.N, win2_0.index t = ![t.val, 0] := by decide +kernel
theorem index2_1 : ∀ t : Fin cfg2.N, win2_1.index t = ![t.val, 0] := by decide +kernel
theorem index2_2 : ∀ t : Fin cfg2.N, win2_2.index t = ![0, 0] := by decide +kernel
theorem index2_3 : ∀ t : Fin cfg2.N, win2_3.index t = ![0, 0] := by decide +kernel
theorem index2_4 : ∀ t : Fin cfg2.N, win2_4.index t = ![t.val, 0] := by decide +kernel
theorem index2_5 : ∀ t : Fin cfg2.N, win2_5.index t = ![t.val, 0] := by decide +kernel
theorem index2_6 : ∀ t : Fin cfg2.N, win2_6.index t = ![t.val, 0, 0] := by decide +kernel
theorem index2_7 : ∀ t : Fin cfg2.N, win2_7.index t = ![t.val, 0, 0] := by decide +kernel
theorem points2 : cfg2.N = 2 := by decide +kernel

/-- The number of a half of the rows, and row `b` of half `t`. -/
def halfOf (t : Fin cfg2.N) : Fin 2 := ⟨t.val, by have := t.isLt; have h := points2; omega⟩
def rowOf (t : Fin 2) (b : Fin 128) : Fin 256 := ⟨t.val * 128 + b.val, by omega⟩

theorem emb2_0 (t : Fin cfg2.N) (b : Fin 128) (k : Fin 4096) : (win2_0.rect t).emb (ix2 b k) = ix2 (rowOf (halfOf t) b) k := by
  funext a
  refine Fin.ext ((Pipeline.Window.rect_emb_val win2_0 t (ix2 b k) a).trans ?_)
  rw [index2_0 t]
  fin_cases a <;> simp [rowOf, halfOf, ix2]
theorem emb2_1 (t : Fin cfg2.N) (b : Fin 128) (k : Fin 4096) : (win2_1.rect t).emb (ix2 b k) = ix2 (rowOf (halfOf t) b) k := by
  funext a
  refine Fin.ext ((Pipeline.Window.rect_emb_val win2_1 t (ix2 b k) a).trans ?_)
  rw [index2_1 t]
  fin_cases a <;> simp [rowOf, halfOf, ix2]
theorem emb2_2 (t : Fin cfg2.N) (j : Fin 1000) (k : Fin 4096) : (win2_2.rect t).emb (ix2 j k) = ix2 j k := by
  funext a
  refine Fin.ext ((Pipeline.Window.rect_emb_val win2_2 t (ix2 j k) a).trans ?_)
  rw [index2_2 t]
  fin_cases a <;> simp [ix2]
theorem emb2_3 (t : Fin cfg2.N) (j : Fin 1000) : (win2_3.rect t).emb (ix2 0 j) = ix2 0 j := by
  funext a
  refine Fin.ext ((Pipeline.Window.rect_emb_val win2_3 t (ix2 0 j) a).trans ?_)
  rw [index2_3 t]
  fin_cases a <;> simp [ix2]
theorem emb2_4 (t : Fin cfg2.N) (b : Fin 128) (k : Fin 128) : (win2_4.rect t).emb (ix2 b k) = ix2 (rowOf (halfOf t) b) k := by
  funext a
  refine Fin.ext ((Pipeline.Window.rect_emb_val win2_4 t (ix2 b k) a).trans ?_)
  rw [index2_4 t]
  fin_cases a <;> simp [rowOf, halfOf, ix2]
theorem emb2_5 (t : Fin cfg2.N) (b : Fin 128) (j : Fin 1000) : (win2_5.rect t).emb (ix2 b j) = ix2 (rowOf (halfOf t) b) j := by
  funext a
  refine Fin.ext ((Pipeline.Window.rect_emb_val win2_5 t (ix2 b j) a).trans ?_)
  rw [index2_5 t]
  fin_cases a <;> simp [rowOf, halfOf, ix2]
theorem emb2_6 (t : Fin cfg2.N) : (win2_6.rect t).emb (ix3 0 0 0) = ix3 (halfOf t) 0 0 := by
  funext a
  refine Fin.ext ((Pipeline.Window.rect_emb_val win2_6 t (ix3 0 0 0) a).trans ?_)
  rw [index2_6 t]
  fin_cases a <;> simp [halfOf, ix3]
theorem emb2_7 (t : Fin cfg2.N) : (win2_7.rect t).emb (ix3 0 0 0) = ix3 (halfOf t) 0 0 := by
  funext a
  refine Fin.ext ((Pipeline.Window.rect_emb_val win2_7 t (ix3 0 0 0) a).trans ?_)
  rw [index2_7 t]
  fin_cases a <;> simp [halfOf, ix3]

/-! The losses' terms, over the tables they are taken from. -/

/-- One class probability: the product of the hidden row and the class's weights, the bias, the sigmoid. -/
def probAt (h : Fin 4096 → EReal) (w : Fin 4096 → EReal) (b : EReal) : EReal := Ideal.logistic ((∑ k, h k * w k) + b)
/-- A row's greatest probability. -/
def rowMax (p : Fin 1000 → EReal) : EReal := Finset.fold max (Ideal.ofBits FTy.f32 4286578688#32) p Finset.univ
/-- The logarithm of the sum of a row's exponentials. -/
def rowLse (p : Fin 1000 → EReal) : EReal := Ideal.log (∑ j, Ideal.exp (p j - rowMax p)) + rowMax p
/-- A row's cross entropy: less the probability at the row's label, picked by comparing every class with it. -/
def rowCe (p : Fin 1000 → EReal) (y : BitVec 32) : EReal :=
  rowLse p - ∑ j : Fin 1000, Scalar.select (IntOp.cmpi CmpIPredicate.eq (BitVec.ofNat 32 j.val) y) (p j) 0
/-- A row's sum of the first loss's terms. -/
def rowBe (h f : Fin 4096 → EReal) : EReal := ∑ k, (Ideal.log1p (Ideal.exp (h k)) - h k * f k)

theorem probs_apply (v0 : Vec Ideal S128x4096 .f32) (v2 : Vec Ideal S1000x4096 .f32) (v4 : Vec Ideal S1x1000 .f32) (b : Fin 128) (j : Fin 1000) :
    k2_pay3 (F := Ideal) v0 v2 v4 (ix2 b j) = probAt (fun k => v0 (ix2 b k)) (fun k => v2 (ix2 j k)) (v4 (ix2 0 j)) := by
  unfold probAt
  pointwise [k2_pay3, k2_pay2]
theorem be_apply (v0 v1 : Vec Ideal S128x4096 .f32) :
    k2_pay4 (F := Ideal) v0 v1 (ix3 0 0 0) = ∑ b : Fin 128, rowBe (fun k => v0 (ix2 b k)) (fun k => v1 (ix2 b k)) := by
  unfold rowBe
  pointwise [k2_pay4, k2_pay2]
theorem lse_apply (v0 : Vec Ideal S128x4096 .f32) (v2 : Vec Ideal S1000x4096 .f32) (v4 : Vec Ideal S1x1000 .f32) (b : Fin 128) :
    k2_pay5 (F := Ideal) v0 v2 v4 (ix2 b 0) = rowLse (fun j => k2_pay3 (F := Ideal) v0 v2 v4 (ix2 b j)) := by
  unfold rowLse rowMax
  pointwise [k2_pay5]
theorem ce_apply (v8 : FVec Ideal S128x1000 .f32) (v31 : FVec Ideal S128x1 .f32) (v4 : Vec Ideal S128x128 .i32) :
    k2_pay1 (F := Ideal) v8 v31 (iota .tc S128x1000 32 [1] iota_S128x1000_d1_w32) (k2_pay6 (F := Ideal) v4) (ix3 0 0 0)
      = ∑ b : Fin 128, (v31 (ix2 b 0) - ∑ j : Fin 1000, Scalar.select (IntOp.cmpi CmpIPredicate.eq (BitVec.ofNat 32 j.val) (v4 (ix2 b 0))) (v8 (ix2 b j)) 0) := by
  pointwise [k2_pay1, k2_pay6]

theorem zero3 : (![0, 0, 0] : Fin 3 → Nat) = fun _ => 0 := by decide

section block
variable (x0 x1 : Vec Ideal S128x4096 .f32) (x2 : Vec Ideal S1000x4096 .f32) (x3 : Vec Ideal S1x1000 .f32) (x4 : Vec Ideal S128x128 .i32)

theorem block2_5 (b : Fin 128) (j : Fin 1000) :
    out2_5 (F := Ideal) x0 x1 x2 x3 x4 (ix2 b j) = probAt (fun k => x0 (ix2 b k)) (fun k => x2 (ix2 j k)) (x3 (ix2 0 j)) := by
  unfold out2_5
  rw [View.canon_unit_zero zero2, View.ld_unit_zero zero2, View.ld_unit_zero zero2, View.ld_unit_zero zero2]
  exact probs_apply x0 x2 x3 b j
theorem block2_6 :
    out2_6 (F := Ideal) x0 x1 x2 x3 x4 (ix3 0 0 0)
      = ∑ b : Fin 128, rowCe (fun j => probAt (fun k => x0 (ix2 b k)) (fun k => x2 (ix2 j k)) (x3 (ix2 0 j))) (x4 (ix2 b 0)) := by
  unfold out2_6
  rw [View.canon_unit_zero zero3, View.ld_unit_zero zero2, View.ld_unit_zero zero2, View.ld_unit_zero zero2, View.ld_unit_zero zero2, ce_apply]
  refine Finset.sum_congr rfl fun b _ => ?_
  rw [lse_apply]
  unfold rowCe
  simp only [probs_apply]
theorem block2_7 :
    out2_7 (F := Ideal) x0 x1 x2 x3 x4 (ix3 0 0 0) = ∑ b : Fin 128, rowBe (fun k => x0 (ix2 b k)) (fun k => x1 (ix2 b k)) := by
  unfold out2_7
  rw [View.canon_unit_zero zero3, View.ld_unit_zero zero2, View.ld_unit_zero zero2]
  exact be_apply x0 x1
end block

variable (V : (c : Dev nD) → (b : Ref sig .tc) → Buf (Elt Ideal) ((c : Thread nD τ).loc b)) (c : Dev nD)

/-- The call's inputs as it finds them. -/
def hiddenIn : S256x4096.Idx → EReal := V c main_v10
def targetIn : S256x4096.Idx → EReal := V c main_v8
def classIn : S1000x4096.Idx → EReal := V c main_arg4
def offsetIn : S1x1000.Idx → EReal := V c main_v13
def labelIn : S256x128.Idx → BitVec 32 := V c main_v12

theorem iblk2_0_apply (t : Fin cfg2.N) (b : Fin 128) (k : Fin 4096) :
    iblk2 V c 0 t (ix2 b k) = hiddenIn V c (ix2 (rowOf (halfOf t) b) k) := congrArg (hiddenIn V c) (emb2_0 t b k)
theorem iblk2_1_apply (t : Fin cfg2.N) (b : Fin 128) (k : Fin 4096) :
    iblk2 V c 1 t (ix2 b k) = targetIn V c (ix2 (rowOf (halfOf t) b) k) := congrArg (targetIn V c) (emb2_1 t b k)
theorem iblk2_2_apply (t : Fin cfg2.N) (j : Fin 1000) (k : Fin 4096) :
    iblk2 V c 2 t (ix2 j k) = classIn V c (ix2 j k) := congrArg (classIn V c) (emb2_2 t j k)
theorem iblk2_3_apply (t : Fin cfg2.N) (j : Fin 1000) :
    iblk2 V c 3 t (ix2 0 j) = offsetIn V c (ix2 0 j) := congrArg (offsetIn V c) (emb2_3 t j)
theorem iblk2_4_apply (t : Fin cfg2.N) (b : Fin 128) (k : Fin 128) :
    iblk2 V c 4 t (ix2 b k) = labelIn V c (ix2 (rowOf (halfOf t) b) k) := congrArg (labelIn V c) (emb2_4 t b k)

/-- The class probabilities of a row. -/
def probRow (r : Fin 256) (j : Fin 1000) : EReal :=
  probAt (fun k => hiddenIn V c (ix2 r k)) (fun k => classIn V c (ix2 j k)) (offsetIn V c (ix2 0 j))
def probs : S256x1000.Idx → EReal := fun y => probRow V c (y 0) (y 1)
def ceHalf : S2x1x1.Idx → EReal := fun y =>
  ∑ b : Fin 128, rowCe (probRow V c (rowOf (y 0) b)) (labelIn V c (ix2 (rowOf (y 0) b) 0))
def beHalf : S2x1x1.Idx → EReal := fun y =>
  ∑ b : Fin 128, rowBe (fun k => hiddenIn V c (ix2 (rowOf (y 0) b) k)) (fun k => targetIn V c (ix2 (rowOf (y 0) b) k))

theorem blockRow (t : Fin cfg2.N) (b : Fin 128) (j : Fin 1000) :
    probAt (fun k => iblk2 V c 0 t (ix2 b k)) (fun k => iblk2 V c 2 t (ix2 j k)) (iblk2 V c 3 t (ix2 0 j)) = probRow V c (rowOf (halfOf t) b) j := by
  unfold probRow
  congr 1
  · funext k; exact iblk2_0_apply V c t b k
  · funext k; exact iblk2_2_apply V c t j k
  · exact iblk2_3_apply V c t j

theorem flushed2_5 (t : Fin cfg2.N) :
    (dat2 V c).flushed 5 t = ((cfg2.win 5).blk t).view.read (Elt Ideal) (probs V c) := by
  show (cfg2.win 5).cut (grid2.coords t) ((dat2 V c).after 5 t) = _
  rw [after2_5]
  funext y
  obtain ⟨b, j, rfl⟩ : ∃ (b : Fin 128) (j : Fin 1000), y = ix2 b j := ⟨y 0, y 1, by idx_vars y⟩
  have e : probRow V c (rowOf (halfOf t) b) j = probs V c (ix2 (rowOf (halfOf t) b) j) := rfl
  refine (block2_5 _ _ _ _ _ b j).trans ((blockRow V c t b j).trans (e.trans ?_))
  generalize probs V c = G
  exact (congrArg G (emb2_5 t b j)).symm

theorem flushed2_6 (t : Fin cfg2.N) :
    (dat2 V c).flushed 6 t = ((cfg2.win 6).blk t).view.read (Elt Ideal) (ceHalf V c) := by
  show (cfg2.win 6).cut (grid2.coords t) ((dat2 V c).after 6 t) = _
  rw [after2_6]
  funext y
  obtain rfl : y = ix3 (0 : Fin 1) (0 : Fin 1) (0 : Fin 1) := funext fun a => by fin_cases a <;> exact Subsingleton.elim (α := Fin 1) _ _
  have e : (∑ b : Fin 128, rowCe (fun j => probAt (fun k => iblk2 V c 0 t (ix2 b k)) (fun k => iblk2 V c 2 t (ix2 j k)) (iblk2 V c 3 t (ix2 0 j))) (iblk2 V c 4 t (ix2 b 0)))
      = ceHalf V c (ix3 (halfOf t) 0 0) := by
    refine Finset.sum_congr rfl fun b _ => ?_
    exact congrArg₂ rowCe (funext fun j => blockRow V c t b j) (iblk2_4_apply V c t b 0)
  refine (block2_6 _ _ _ _ _).trans (e.trans ?_)
  generalize ceHalf V c = G
  exact (congrArg G (emb2_6 t)).symm

theorem flushed2_7 (t : Fin cfg2.N) :
    (dat2 V c).flushed 7 t = ((cfg2.win 7).blk t).view.read (Elt Ideal) (beHalf V c) := by
  show (cfg2.win 7).cut (grid2.coords t) ((dat2 V c).after 7 t) = _
  rw [after2_7]
  funext y
  obtain rfl : y = ix3 (0 : Fin 1) (0 : Fin 1) (0 : Fin 1) := funext fun a => by fin_cases a <;> exact Subsingleton.elim (α := Fin 1) _ _
  have e : (∑ b : Fin 128, rowBe (fun k => iblk2 V c 0 t (ix2 b k)) (fun k => iblk2 V c 1 t (ix2 b k)))
      = beHalf V c (ix3 (halfOf t) 0 0) := by
    refine Finset.sum_congr rfl fun b _ => ?_
    exact congrArg₂ rowBe (funext fun k => iblk2_0_apply V c t b k) (funext fun k => iblk2_1_apply V c t b k)
  refine (block2_7 _ _ _ _ _).trans (e.trans ?_)
  generalize beHalf V c = G
  exact (congrArg G (emb2_7 t)).symm

theorem cover2_out5 (i : S256x1000.Idx) : ∃ t : Fin cfg2.N, (cfg2.win 5).flush t = true ∧ i ∈ ((cfg2.win 5).blk t).view.set := by
  have h0 : (i 0 : Nat) < 256 := (i 0).isLt
  have ht : (i 0 : Nat) / 128 < cfg2.N := by rw [points2]; omega
  refine ⟨⟨_, ht⟩, flush2_5 _, ?_⟩
  have e : (win2_5.rect ⟨_, ht⟩).emb (ix2 (⟨(i 0 : Nat) % 128, by omega⟩ : Fin 128) (i 1 : Fin 1000)) = i := by
    refine (emb2_5 _ _ _).trans ?_
    funext a
    refine Fin.ext ?_
    fin_cases a
    · show (i 0 : Nat) / 128 * 128 + (i 0 : Nat) % 128 = (i 0 : Nat)
      omega
    · rfl
  exact mem_of_emb e (View.emb_mem_set ((cfg2.win 5).blk ⟨_, ht⟩).view _)

theorem half_eq (i : S2x1x1.Idx) (ht : (i 0 : Nat) < cfg2.N) : (ix3 (halfOf ⟨_, ht⟩) 0 0 : S2x1x1.Idx) = i := by
  funext a
  fin_cases a
  · rfl
  · exact Subsingleton.elim (α := Fin 1) _ _
  · exact Subsingleton.elim (α := Fin 1) _ _

theorem cover2_out6 (i : S2x1x1.Idx) : ∃ t : Fin cfg2.N, (cfg2.win 6).flush t = true ∧ i ∈ ((cfg2.win 6).blk t).view.set := by
  have ht : (i 0 : Nat) < cfg2.N := by rw [points2]; exact (i 0).isLt
  exact ⟨⟨_, ht⟩, flush2_6 _, mem_of_emb ((emb2_6 ⟨_, ht⟩).trans (half_eq i ht)) (View.emb_mem_set ((cfg2.win 6).blk ⟨_, ht⟩).view _)⟩

theorem cover2_out7 (i : S2x1x1.Idx) : ∃ t : Fin cfg2.N, (cfg2.win 7).flush t = true ∧ i ∈ ((cfg2.win 7).blk t).view.set := by
  have ht : (i 0 : Nat) < cfg2.N := by rw [points2]; exact (i 0).isLt
  exact ⟨⟨_, ht⟩, flush2_7 _, mem_of_emb ((emb2_7 ⟨_, ht⟩).trans (half_eq i ht)) (View.emb_mem_set ((cfg2.win 7).blk ⟨_, ht⟩).view _)⟩

/-- The third call leaves the probabilities and, by halves, the two losses' sums. -/
theorem final2_5 : (dat2 V c).arrAt 5 cfg2.N = probs V c :=
  (dat2 V c).arrAt_eq_of_cover 5 (probs V c) (fun t _ => flushed2_5 V c t) cover2_out5
theorem final2_6 : (dat2 V c).arrAt 6 cfg2.N = ceHalf V c :=
  (dat2 V c).arrAt_eq_of_cover 6 (ceHalf V c) (fun t _ => flushed2_6 V c t) cover2_out6
theorem final2_7 : (dat2 V c).arrAt 7 cfg2.N = beHalf V c :=
  (dat2 V c).arrAt_eq_of_cover 7 (beHalf V c) (fun t _ => flushed2_7 V c t) cover2_out7

end Cert.Value

end
-- ==== Proof.Value.Math.lean ====
/- Facts about extended reals and about words that join the two programs' ways of writing the same value. -/
module

public import proofs.«01_k».proof.Proof.Value.Call2
public import Idealize.ShloMosaic.Lib.IdealHost
public import Idealize.ShloMosaic.Lib.WordCmp
public import Idealize.ShloMosaic.Lib.StableHlo.Predicate

@[expose] public section

noncomputable section

namespace Cert.Value

open Idealize.ShloMosaic

/-- The two printed constants of the mean over a channel's 64 entries: a 64th, and 64. -/
theorem const_64th : Ideal.ofBits FTy.f32 1015021568#32 = ((1 / 64 : ℝ) : EReal) := by
  simp [Ideal.ofBits, Ideal.ieee, -EReal.coe_mul]; norm_num
theorem const_64 : Ideal.ofBits FTy.f32 1115684864#32 = ((64 : ℝ) : EReal) := by
  simp [Ideal.ofBits, Ideal.ieee, -EReal.coe_mul]; norm_num

theorem mean_eq (s : EReal) : s * Ideal.ofBits FTy.f32 1015021568#32 = Ideal.div s (Ideal.ofBits FTy.f32 1115684864#32) := by
  rw [const_64th, const_64, Ideal.div_coe (by norm_num)]

/-- A sum over 64 entries, by rows of 8. -/
theorem sum_64 (f : Fin 8 → Fin 8 → EReal) :
    ∑ p : Fin 64, f ⟨p.val / 8, by omega⟩ ⟨p.val % 8, by omega⟩ = ∑ p : Fin 8, ∑ q : Fin 8, f p q := by
  rw [← Finset.sum_product', Finset.univ_product_univ]
  exact Fintype.sum_equiv (finProdFinEquiv (m := 8) (n := 8)).symm _ _ fun p => rfl

/-- The sum of the rows' values, by halves of 128 rows. -/
theorem sum_halves (f : Fin 256 → EReal) : ∑ t : Fin 2, ∑ b : Fin 128, f (rowOf t b) = ∑ r : Fin 256, f r := by
  rw [← Finset.sum_product', Finset.univ_product_univ]
  refine Fintype.sum_equiv (finProdFinEquiv (m := 2) (n := 128)) _ _ fun p => congrArg f (Fin.ext ?_)
  show p.1.val * 128 + p.2.val = p.2.val + 128 * p.1.val
  omega

/-- A sigmoid's value is a real between zero and one. -/
theorem logistic_real (x : EReal) : ∃ r : ℝ, 0 ≤ r ∧ Ideal.logistic x = (r : EReal) := by
  induction x with
  | bot => exact ⟨0, le_refl _, Ideal.logistic_bot⟩
  | top => exact ⟨1, zero_le_one, Ideal.logistic_top⟩
  | coe r => exact ⟨(1 + Real.exp (-r))⁻¹, by positivity, Ideal.logistic_coe r⟩

theorem log1p_exp (r : ℝ) : Ideal.log1p (Ideal.exp (r : EReal)) = ((Real.log (1 + Real.exp r) : ℝ) : EReal) := by
  have h : (1 : EReal) + Ideal.exp (r : EReal) = ((1 + Real.exp r : ℝ) : EReal) := by
    rw [Ideal.exp_coe, EReal.coe_add, EReal.coe_one]
  unfold Ideal.log1p
  rw [h]
  show (if 1 + Real.exp r ≤ 0 then (⊥ : EReal) else ((Real.log (1 + Real.exp r) : ℝ) : EReal)) = _
  rw [if_neg (not_le.2 (by positivity))]

/-- At a value that is not negative, the smooth maximum with zero is the logarithm of one plus the exponential, in whichever form. -/
theorem smooth_eq {r : ℝ} (hr : 0 ≤ r) :
    max (r : EReal) 0 + Ideal.log1p (Ideal.exp (-FloatOps.absf (F := Ideal) (φ := .f32) (r : EReal))) = Ideal.log1p (Ideal.exp (r : EReal)) := by
  have ha : (FloatOps.absf (F := Ideal) (φ := .f32) (r : EReal) : EReal) = (r : EReal) := by
    show max (r : EReal) (-(r : EReal)) = r
    exact max_eq_left (by rw [← EReal.coe_neg]; exact EReal.coe_le_coe_iff.2 (by linarith))
  have hm : max (r : EReal) 0 = (r : EReal) := max_eq_left (EReal.coe_nonneg.2 hr)
  rw [hm]
  refine (congrArg (fun z : EReal => (r : EReal) + Ideal.log1p (Ideal.exp (-z))) ha).trans ?_
  show (r : EReal) + Ideal.log1p (Ideal.exp (-(r : EReal))) = _
  rw [← EReal.coe_neg, log1p_exp, log1p_exp, ← EReal.coe_add]
  congr 1
  have h1 : 1 + Real.exp r = Real.exp r * (1 + Real.exp (-r)) := by
    rw [mul_add, ← Real.exp_add]; simp [add_comm]
  rw [h1, Real.log_mul (by positivity) (by positivity), Real.log_exp]

/-- Picking a row's entry by comparing every column with the label. -/
theorem pick_eq (p : Fin 1000 → EReal) (y : BitVec 32) (h : y.toNat < 1000) :
    ∑ j : Fin 1000, Scalar.select (IntOp.cmpi CmpIPredicate.eq (BitVec.ofNat 32 j.val) y) (p j) 0 = p ⟨y.toNat, h⟩ := by
  refine (Finset.sum_eq_single (⟨y.toNat, h⟩ : Fin 1000) (fun j _ hj => ?_) (fun q => absurd (Finset.mem_univ _) q)).trans ?_
  · refine WordCmp.select_of_eq_zero ?_ _ _
    have hne : BitVec.ofNat 32 j.val ≠ y := fun e => hj (Fin.ext (by
      show j.val = y.toNat
      rw [← e, BitVec.toNat_ofNat]; have := j.isLt; omega))
    rcases (by decide +revert : ∀ c : BitVec 1, c = 0#1 ∨ c = 1#1) (IntOp.cmpi CmpIPredicate.eq (BitVec.ofNat 32 j.val) y) with e | e
    · exact e
    · exact absurd (StableHlo.Predicate.cmpi_eq_iff.1 e) hne
  · refine WordCmp.select_of_eq_one ?_ _ _
    refine StableHlo.Predicate.cmpi_eq_iff.2 ?_
    show BitVec.ofNat 32 y.toNat = y
    simp

end Cert.Value

end
-- ==== Proof.Value.Ref.lean ====
/- What the reference's run leaves, read entry by entry: the two tables the rows' values are set into, the hidden row, the class
   probabilities, and the two losses. -/
module

public import proofs.«01_k».proof.Proof.Gen.ReferenceIdeal.Read
public import proofs.«01_k».proof.Proof.Value.Scatter
public import proofs.«01_k».proof.Proof.Value.Call2
public import Idealize.ShloMosaic.Lib.ScatterToDense.RefScatter
public import Idealize.ShloMosaic.Lib.Routing.OpsPair
public import Idealize.ShloMosaic.Lib.Pointwise

@[expose] public section

set_option maxRecDepth 16384

noncomputable section

namespace Cert.Value

open Idealize.ShloMosaic
open Cert.ReferenceIdeal Cert.ReferenceIdeal.Read

section
variable (x0 x1 : (⟨S256x512x8x8, .f32⟩ : BufTy).Contents (Elt Ideal)) (x2 : (⟨S4096x16384, .f32⟩ : BufTy).Contents (Elt Ideal))
  (x3 : (⟨S4096, .f32⟩ : BufTy).Contents (Elt Ideal)) (x4 : (⟨S1000x4096, .f32⟩ : BufTy).Contents (Elt Ideal))
  (x5 : (⟨S1000, .f32⟩ : BufTy).Contents (Elt Ideal)) (x6 x7 : (⟨S256x512, .i32⟩ : BufTy).Contents (Elt Ideal))
  (x8 : (⟨S256, .i32⟩ : BufTy).Contents (Elt Ideal))

/-- The mean of channel `j` of row `b`. -/
def meanAt (x : FVec Ideal S256x512x8x8 .f32) (b : Fin 256) (j : Fin 512) : EReal :=
  Ideal.div (∑ p : Fin 8, ∑ q : Fin 8, x (ix4 b j p q)) (Ideal.ofBits FTy.f32 1115684864#32)

theorem mean0 (b : Fin 256) (j : Fin 512) : val_main_v2 (F := Ideal) x0 (ix2 b j) = meanAt x0 b j := by
  unfold meanAt
  pointwise [val_main_v2, val_main_v1, val_main_v0, val_main_cst_0, val_main_cst]
theorem mean1 (b : Fin 256) (j : Fin 512) : val_main_v23 (F := Ideal) x1 (ix2 b j) = meanAt x1 b j := by
  unfold meanAt
  pointwise [val_main_v23, val_main_v22, val_main_v21, val_main_cst_5, val_main_cst_6]

theorem row0 (b : Fin 256) (j : Fin 512) : val_main_v19 (F := Ideal) x6 (ix3 b j 0) = BitVec.ofNat 32 b.val := by
  refine Eq.trans ?_ (Routing.wrap_of_lt (BitVec.ofNat 32 b.val) (IntOp.addi (BitVec.ofNat 32 b.val) 256#32) (by
    rw [BitVec.toNat_ofNat]; have := b.isLt; omega))
  pointwise [val_main_v19, val_main_v17, val_main_v18, val_main_v16, val_main_v10, val_main_v4, val_main_v3, val_main_v7, val_main_v9,
    val_main_v8, val_main_v6, val_main_c, val_main_c_2]
theorem row1 (b : Fin 256) (j : Fin 512) : val_main_v40 (F := Ideal) x7 (ix3 b j 0) = BitVec.ofNat 32 b.val := by
  refine Eq.trans ?_ (Routing.wrap_of_lt (BitVec.ofNat 32 b.val) (IntOp.addi (BitVec.ofNat 32 b.val) 256#32) (by
    rw [BitVec.toNat_ofNat]; have := b.isLt; omega))
  pointwise [val_main_v40, val_main_v38, val_main_v39, val_main_v37, val_main_v31, val_main_v25, val_main_v24, val_main_v28, val_main_v30,
    val_main_v29, val_main_v27, val_main_c_8, val_main_c_9]
theorem word0 (b : Fin 256) (j : Fin 512) (h : (x6 (ix2 b j) : BitVec 32).toNat < 2 ^ 31) :
    val_main_v19 (F := Ideal) x6 (ix3 b j 1) = x6 (ix2 b j) := by
  refine Eq.trans ?_ (Routing.wrap_of_lt (x6 (ix2 b j)) (IntOp.addi (x6 (ix2 b j)) 16384#32) h)
  pointwise [val_main_v19, val_main_v17, val_main_v18, val_main_v15, val_main_v11, val_main_v12, val_main_v13, val_main_v14, val_main_c_3,
    val_main_c_4]
theorem word1 (b : Fin 256) (j : Fin 512) (h : (x7 (ix2 b j) : BitVec 32).toNat < 2 ^ 31) :
    val_main_v40 (F := Ideal) x7 (ix3 b j 1) = x7 (ix2 b j) := by
  refine Eq.trans ?_ (Routing.wrap_of_lt (x7 (ix2 b j)) (IntOp.addi (x7 (ix2 b j)) 4096#32) h)
  pointwise [val_main_v40, val_main_v38, val_main_v39, val_main_v36, val_main_v32, val_main_v33, val_main_v34, val_main_v35, val_main_c_10,
    val_main_c_11]

/-- A row of 512 as a function of all numbers. -/
def extend {α : Type} [Zero α] (f : Fin 512 → α) (n : Nat) : α := if h : n < 512 then f ⟨n, h⟩ else 0
theorem extend_val {α : Type} [Zero α] (f : Fin 512 → α) (j : Fin 512) : extend f j.val = f j := dif_pos j.isLt

/-- The first table: row `b` has, at column `k`, the mean of the last channel whose index is `k`, and zero where there is none. -/
theorem refTable0 (h : ∀ b j, (x6 (ix2 b j) : BitVec 32).toNat < 2 ^ 31) (b : Fin 256) (k : Fin 16384) :
    val_main_v20 (F := Ideal) x0 x6 (ix2 b k) = scat (fun j : Fin 512 => x6 (ix2 b j)) (fun j => meanAt x0 b j) k.val := by
  unfold val_main_v20
  refine (ScatterToDense.scatter_eq_GS scatter_S256x16384_S256x512x2_S256x512_n_01_01_2 rfl rfl rfl (by decide) (by decide)
    (val_main_v5 (F := Ideal)) (val_main_v19 x6) (val_main_v2 x0)
    (fun i => extend fun j => (x6 (ix2 i j) : BitVec 32)) (fun i => extend fun j => meanAt x0 i j)
    (fun i j => row0 x6 i j) (fun i j => (word0 x6 i j (h i j)).trans (extend_val (fun j => (x6 (ix2 i j) : BitVec 32)) j).symm)
    (fun i j => (mean0 x0 i j).trans (extend_val (fun j => meanAt x0 i j) j).symm) b k).trans ?_
  have h0 : val_main_v5 (F := Ideal) (ix2 b k) = 0 := by pointwise [val_main_v5, val_main_cst_1]
  refine Eq.trans (congrArg (fun z => ScatterToDense.GS _ _ z k.val 512) h0) ?_
  refine (lastHit_eq_scat _ _ k.val).trans ?_
  simp only [extend_val]
theorem refTable1 (h : ∀ b j, (x7 (ix2 b j) : BitVec 32).toNat < 2 ^ 31) (b : Fin 256) (k : Fin 4096) :
    val_main_v41 (F := Ideal) x1 x7 (ix2 b k) = scat (fun j : Fin 512 => x7 (ix2 b j)) (fun j => meanAt x1 b j) k.val := by
  unfold val_main_v41
  refine (ScatterToDense.scatter_eq_GS scatter_S256x4096_S256x512x2_S256x512_n_01_01_2 rfl rfl rfl (by decide) (by decide)
    (val_main_v26 (F := Ideal)) (val_main_v40 x7) (val_main_v23 x1)
    (fun i => extend fun j => (x7 (ix2 i j) : BitVec 32)) (fun i => extend fun j => meanAt x1 i j)
    (fun i j => row1 x7 i j) (fun i j => (word1 x7 i j (h i j)).trans (extend_val (fun j => (x7 (ix2 i j) : BitVec 32)) j).symm)
    (fun i j => (mean1 x1 i j).trans (extend_val (fun j => meanAt x1 i j) j).symm) b k).trans ?_
  have h0 : val_main_v26 (F := Ideal) (ix2 b k) = 0 := by pointwise [val_main_v26, val_main_cst_7]
  refine Eq.trans (congrArg (fun z => ScatterToDense.GS _ _ z k.val 512) h0) ?_
  refine (lastHit_eq_scat _ _ k.val).trans ?_
  simp only [extend_val]

theorem refHidden (b : Fin 256) (q : Fin 4096) :
    val_main_v52 (F := Ideal) x0 x2 x3 x6 (ix2 b q)
      = Ideal.logistic ((∑ k : Fin 16384, val_main_v20 (F := Ideal) x0 x6 (ix2 b k) * x2 (ix2 q k)) + x3 (ix1 q)) := by
  unfold Ideal.logistic
  pointwise [val_main_v52, val_main_v51, val_main_v50, val_main_v49, val_main_v48, val_main_v47, val_main_v46, val_main_v45, val_main_v44,
    val_main_v43, val_main_v42, val_main_cst_12, val_main_cst_13]
theorem refProb (b : Fin 256) (j : Fin 1000) :
    val_main_v68 (F := Ideal) x0 x2 x3 x4 x5 x6 (ix2 b j)
      = probAt (fun k => val_main_v52 (F := Ideal) x0 x2 x3 x6 (ix2 b k)) (fun k => x4 (ix2 j k)) (x5 (ix1 j)) := by
  unfold probAt Ideal.logistic
  pointwise [val_main_v58, val_main_v59, val_main_v60, val_main_v61, val_main_v62, val_main_v63, val_main_v64, val_main_v65, val_main_v66,
    val_main_v67, val_main_v68, val_main_cst_16, val_main_cst_17]

/-- One term of the first loss, the smooth maximum of the hidden value and zero written as the reference writes it. -/
def smooth (h : EReal) : EReal := max h 0 + Ideal.log1p (Ideal.exp (-FloatOps.absf (F := Ideal) (φ := .f32) h))
theorem refTerm (b : Fin 256) (k : Fin 4096) :
    val_main_v55 (F := Ideal) x0 x1 x2 x3 x6 x7 (ix2 b k)
      = smooth (val_main_v52 (F := Ideal) x0 x2 x3 x6 (ix2 b k))
        - val_main_v52 (F := Ideal) x0 x2 x3 x6 (ix2 b k) * val_main_v41 (F := Ideal) x1 x7 (ix2 b k) := by
  unfold smooth
  pointwise [val_main_v55, val_main_v54, val_main_v53, val_main_call0_v0, val_main_call0_v1, val_main_call0_v2, val_main_call0_v3,
    val_main_call0_v4, val_main_call0_v5, val_main_call0_v6, val_main_call0_v7, val_main_call0_v8, val_main_call0_v9, val_main_call0_v10,
    val_main_call0_v11, val_main_call0_cst]
  rw [if_neg (not_not.2 rfl)]
theorem refMean (i : S_.Idx) :
    val_main_v57 (F := Ideal) x0 x1 x2 x3 x6 x7 i
      = Ideal.div (∑ b : Fin 256, ∑ k : Fin 4096, val_main_v55 (F := Ideal) x0 x1 x2 x3 x6 x7 (ix2 b k)) (Ideal.ofBits FTy.f32 1233125376#32) := by
  pointwise [val_main_v57, val_main_v56, val_main_cst_14, val_main_cst_15]
theorem refLoss (i : S_.Idx) :
    val_main_v84 (F := Ideal) x0 x1 x2 x3 x4 x5 x6 x7 x8 i
      = Ideal.div (∑ b : Fin 256, (val_main_v80 (F := Ideal) x0 x2 x3 x4 x5 x6 (ix1 b) - val_main_v71 (F := Ideal) x0 x2 x3 x4 x5 x6 x8 (ix1 b)))
          (Ideal.ofBits FTy.f32 1132462080#32) + val_main_v57 (F := Ideal) x0 x1 x2 x3 x6 x7 i := by
  pointwise [val_main_v84, val_main_v83, val_main_v82, val_main_v81, val_main_cst_20, val_main_cst_21]

theorem refMax (b : Fin 256) :
    val_main_v72 (F := Ideal) x0 x2 x3 x4 x5 x6 (ix1 b) = rowMax (fun j => val_main_v68 (F := Ideal) x0 x2 x3 x4 x5 x6 (ix2 b j)) := by
  unfold rowMax val_main_v72
  generalize val_main_v68 (F := Ideal) x0 x2 x3 x4 x5 x6 = p
  refine (Host.reduce_eq_fold _ _ _ _ _ _).trans ?_
  refine (Shape.ReducesTo.fold_fiber_r2_a1 _ _ _ _ _).trans ?_
  rfl
theorem refLse (b : Fin 256) :
    val_main_v80 (F := Ideal) x0 x2 x3 x4 x5 x6 (ix1 b) = rowLse (fun j => val_main_v68 (F := Ideal) x0 x2 x3 x4 x5 x6 (ix2 b j)) := by
  have hm : val_main_v79 (F := Ideal) x0 x2 x3 x4 x5 x6 (ix1 b) = val_main_v72 (F := Ideal) x0 x2 x3 x4 x5 x6 (ix1 b) := by
    unfold val_main_v79 val_main_v73
    generalize val_main_v72 (F := Ideal) x0 x2 x3 x4 x5 x6 = u
    pointwise []
  have hs (j : Fin 1000) : val_main_v76 (F := Ideal) x0 x2 x3 x4 x5 x6 (ix2 b j)
      = Ideal.exp (val_main_v68 (F := Ideal) x0 x2 x3 x4 x5 x6 (ix2 b j) - val_main_v72 (F := Ideal) x0 x2 x3 x4 x5 x6 (ix1 b)) := by
    unfold val_main_v76 val_main_v75 val_main_v74 val_main_v73
    generalize val_main_v72 (F := Ideal) x0 x2 x3 x4 x5 x6 = u
    generalize val_main_v68 (F := Ideal) x0 x2 x3 x4 x5 x6 = p
    pointwise []
  have hl : val_main_v78 (F := Ideal) x0 x2 x3 x4 x5 x6 (ix1 b)
      = Ideal.log (∑ j : Fin 1000, val_main_v76 (F := Ideal) x0 x2 x3 x4 x5 x6 (ix2 b j)) := by
    unfold val_main_v78 val_main_v77
    generalize val_main_v76 (F := Ideal) x0 x2 x3 x4 x5 x6 = u
    pointwise [val_main_cst_19]
  unfold rowLse
  rw [← refMax]
  refine (val_main_v80_apply x0 x2 x3 x4 x5 x6 (ix1 b)).trans ?_
  rw [hm, hl]
  simp only [hs]
  rfl

/-- The label's column, and that it is in range. -/
theorem refColumn (b : Fin 256) (h : (x8 (ix1 b) : BitVec 32).toNat < 1000) :
    val_main_call1_v5 (F := Ideal) x8 (ix3 b 0 0) = x8 (ix1 b) := by
  refine Eq.trans ?_ (Routing.wrap_of_lt (x8 (ix1 b)) (IntOp.addi (x8 (ix1 b)) 1000#32) (by omega))
  pointwise [val_main_call1_v5, val_main_call1_v4, val_main_call1_v3, val_main_call1_v2, val_main_call1_v1, val_main_call1_v0, val_main_call1_c,
    val_main_call1_c_0, val_main_v69]
theorem refMask (b : Fin 256) (h : (x8 (ix1 b) : BitVec 32).toNat < 1000) : val_main_call1_v12 (F := Ideal) x8 (ix2 b 0) = 1#1 := by
  have e : val_main_call1_v12 (F := Ideal) x8 (ix2 b 0)
      = Finset.fold IntOp.andi (1#1) (fun x : Fin 1 => IntOp.andi (IntOp.cmpi CmpIPredicate.sge (val_main_call1_v5 (F := Ideal) x8 (ix3 b 0 x)) 0#32)
          (IntOp.cmpi CmpIPredicate.sle (val_main_call1_v5 (F := Ideal) x8 (ix3 b 0 x)) 999#32)) Finset.univ := by
    pointwise [val_main_call1_v12, val_main_call1_v11, val_main_call1_v10, val_main_call1_v9, val_main_call1_v8, val_main_call1_v7,
      val_main_call1_v6, val_main_call1_c_3, val_main_call1_c_2, val_main_call1_c_1]
  rw [e, Finset.univ_unique, Finset.fold_singleton]
  change IntOp.andi (IntOp.andi (IntOp.cmpi CmpIPredicate.sge (val_main_call1_v5 (F := Ideal) x8 (ix3 b 0 0)) 0#32)
          (IntOp.cmpi CmpIPredicate.sle (val_main_call1_v5 (F := Ideal) x8 (ix3 b 0 0)) 999#32)) 1#1 = 1#1
  rw [refColumn x8 b h]
  generalize (x8 (ix1 b) : BitVec 32) = y at h ⊢
  rw [(StableHlo.Predicate.sge_iff_toNat (a := y) (b := 0#32) (by omega) (by decide)).2 (Nat.zero_le _),
    (StableHlo.Predicate.sle_iff_toNat (a := y) (b := 999#32) (by omega) (by decide)).2 (by
      show y.toNat ≤ 999
      omega)]
  decide

/-- The gather along a row: row `b`'s entry at the row's one start index, which is in range. -/
theorem gather_row (p : FVec Ideal S256x1000 .f32) (idx : IVec S256x1x1 32) (b : Fin 256) (h : (idx (ix3 b 0 0)).toNat < 1000) :
    Host.gather gather_S256x1000_S256x1x1_S256x1_n_1_0_0_1_2_11 p idx (ix2 b 0) = p (ix2 b ⟨(idx (ix3 b 0 0)).toNat, h⟩) := by
  unfold Host.gather
  refine congrArg p (funext fun a => Fin.ext ?_)
  show gather_S256x1000_S256x1x1_S256x1_n_1_0_0_1_2_11.start (ix2 b 0) idx a
      + gather_S256x1000_S256x1x1_S256x1_n_1_0_0_1_2_11.batchCoord (ix2 b 0) a
      + gather_S256x1000_S256x1x1_S256x1_n_1_0_0_1_2_11.offCoord (ix2 b 0) a = _
  match a with
  | ⟨0, _⟩ =>
    rw [GatherDims.start_batching _ _ _ _ (List.mem_singleton.mpr rfl),
      GatherDims.offCoord_eq_zero _ _ _ (fun q => ((GatherDims.mem_sKept _ _).mp q).2 (List.mem_singleton.mpr rfl))]
    unfold GatherDims.batchCoord
    rw [dif_pos (show (⟨0, by decide⟩ : Fin S256x1000.rank) ∈ gather_S256x1000_S256x1x1_S256x1_n_1_0_0_1_2_11.operandBatchingDims from
      List.mem_singleton.mpr rfl)]
    show 0 + b.val + 0 = b.val
    omega
  | ⟨1, _⟩ =>
    rw [GatherDims.batchCoord_eq_zero _ _ _ (fun q => Nat.one_ne_zero (congrArg Fin.val (List.mem_singleton.mp q))),
      GatherDims.offCoord_eq_zero _ _ _ (fun q => ((GatherDims.mem_sKept _ _).mp q).1 (List.mem_singleton.mpr rfl))]
    unfold GatherDims.start
    rw [dif_pos (show (⟨1, by decide⟩ : Fin S256x1000.rank) ∈ gather_S256x1000_S256x1x1_S256x1_n_1_0_0_1_2_11.startIndexMap from
      List.mem_singleton.mpr rfl)]
    have e : gather_S256x1000_S256x1x1_S256x1_n_1_0_0_1_2_11.siIdx (ix2 b 0)
        ⟨List.idxOf (⟨1, by decide⟩ : Fin S256x1000.rank) gather_S256x1000_S256x1x1_S256x1_n_1_0_0_1_2_11.startIndexMap,
          List.idxOf_lt_length_iff.2 (List.mem_singleton.mpr rfl)⟩ = ix3 b 0 0 := by
      funext d
      refine Fin.ext ?_
      match d with
      | ⟨0, _⟩ => rfl
      | ⟨1, _⟩ => rfl
      | ⟨2, _⟩ => rfl
    rw [e, StableHlo.Predicate.toInt_eq_toNat_of_lt (by omega)]
    show min (idx (ix3 b 0 0)).toNat (1000 - 1) + 0 + 0 = (idx (ix3 b 0 0)).toNat
    omega

theorem refPick (b : Fin 256) (h : (x8 (ix1 b) : BitVec 32).toNat < 1000) :
    val_main_v71 (F := Ideal) x0 x2 x3 x4 x5 x6 x8 (ix1 b)
      = val_main_v68 (F := Ideal) x0 x2 x3 x4 x5 x6 (ix2 b ⟨(x8 (ix1 b) : BitVec 32).toNat, h⟩) := by
  have e : val_main_v71 (F := Ideal) x0 x2 x3 x4 x5 x6 x8 (ix1 b)
      = Scalar.select (val_main_call1_v12 (F := Ideal) x8 (ix2 b 0)) (val_main_call1_v13 (F := Ideal) x0 x2 x3 x4 x5 x6 x8 (ix2 b 0))
          (Ideal.ofBits FTy.f32 2143289344#32) := by
    pointwise [val_main_v71, val_main_v70, val_main_call1_v14, val_main_call1_cst]
  rw [e, refMask x8 b h, WordCmp.select_of_eq_one rfl]
  unfold val_main_call1_v13
  have hc := refColumn x8 b h
  refine (gather_row _ _ b (by rw [hc]; exact h)).trans ?_
  exact congrArg (fun z => val_main_v68 (F := Ideal) x0 x2 x3 x4 x5 x6 (ix2 b z)) (Fin.ext (congrArg BitVec.toNat hc))

end

end Cert.Value

end
-- ==== Proof.Value.Kernel.lean ====
/- What the kernel's run leaves in its two results, call by call, in the terms the reference's entries are read in: with every index and
   label in its range the two programs leave the same. -/
module

public import proofs.«01_k».proof.Proof.Run.Segments
public import proofs.«01_k».proof.Proof.Value.Call0
public import proofs.«01_k».proof.Proof.Value.Call2
public import proofs.«01_k».proof.Proof.Value.Math
public import proofs.«01_k».proof.Proof.Value.Ref
public import Idealize.ShloMosaic.Lib.StableHlo.RunRead
public import Idealize.ShloMosaic.Lib.Pointwise

@[expose] public section

set_option maxRecDepth 16384

noncomputable section

namespace Cert.Value

open Idealize.ShloMosaic Idealize.ShloMosaic.TcCoe
open Cert.KernelIdeal Cert.KernelIdeal.Gen Cert.KernelIdeal.Run
open Cert.ReferenceIdeal.Read

/-! The operations before, between and after the calls, read entry by entry. -/

section host
variable (V : Valuation τ sig (Elt Ideal))

theorem host0_v1 (b : Fin 256) (p : Fin 64) (j : Fin 512) :
    StableHlo.after (hostOps0 (F := Ideal)) V (Proc.devRef .tc main_v1) (ix3 b p j)
      = V (Proc.devRef .tc main_arg0) (ix4 b j (⟨p.val / 8, by omega⟩ : Fin 8) (⟨p.val % 8, by omega⟩ : Fin 8)) := by
  after_reads_simp
  pointwise []
theorem host0_v3 (b : Fin 256) (p : Fin 64) (j : Fin 512) :
    StableHlo.after (hostOps0 (F := Ideal)) V (Proc.devRef .tc main_v3) (ix3 b p j)
      = V (Proc.devRef .tc main_arg1) (ix4 b j (⟨p.val / 8, by omega⟩ : Fin 8) (⟨p.val % 8, by omega⟩ : Fin 8)) := by
  after_reads_simp
  pointwise []
theorem host0_v4 (t : Fin 32) (b : Fin 8) (j : Fin 512) :
    StableHlo.after (hostOps0 (F := Ideal)) V (Proc.devRef .tc main_v4) (ix3 t b j)
      = V (Proc.devRef .tc main_arg6) (ix2 (⟨t.val * 8 + b.val, by omega⟩ : Fin 256) j) := by
  after_reads_simp
  pointwise []
theorem host0_v5 (t : Fin 32) (b : Fin 8) (j : Fin 512) :
    StableHlo.after (hostOps0 (F := Ideal)) V (Proc.devRef .tc main_v5) (ix3 t b j)
      = V (Proc.devRef .tc main_arg7) (ix2 (⟨t.val * 8 + b.val, by omega⟩ : Fin 256) j) := by
  after_reads_simp
  pointwise []
theorem host1_v7 (b : Fin 256) (k : Fin 16384) :
    StableHlo.after (hostOps1 (F := Ideal)) V (Proc.devRef .tc main_v7) (ix2 b k)
      = V (Proc.devRef .tc main_v6_0) (ix3 b (⟨k.val / 512, by omega⟩ : Fin 32) (⟨k.val % 512, by omega⟩ : Fin 512)) := by
  after_reads_simp
  pointwise []
theorem host1_v8 (b : Fin 256) (k : Fin 4096) :
    StableHlo.after (hostOps1 (F := Ideal)) V (Proc.devRef .tc main_v8) (ix2 b k)
      = V (Proc.devRef .tc main_v6_1) (ix3 b (⟨k.val / 128, by omega⟩ : Fin 32) (⟨k.val % 128, by omega⟩ : Fin 128)) := by
  after_reads_simp
  pointwise []
theorem host1_v9 (q : Fin 4096) :
    StableHlo.after (hostOps1 (F := Ideal)) V (Proc.devRef .tc main_v9) (ix2 0 q) = V (Proc.devRef .tc main_arg3) (ix1 q) := by
  after_reads_simp
  pointwise []
theorem host2_v12 (b : Fin 256) (l : Fin 128) :
    StableHlo.after (hostOps2 (F := Ideal)) V (Proc.devRef .tc main_v12) (ix2 b l) = V (Proc.devRef .tc main_arg8) (ix1 b) := by
  after_reads_simp
  pointwise []
theorem host2_v13 (j : Fin 1000) :
    StableHlo.after (hostOps2 (F := Ideal)) V (Proc.devRef .tc main_v13) (ix2 0 j) = V (Proc.devRef .tc main_arg5) (ix1 j) := by
  after_reads_simp
  pointwise []
theorem host3_v19 (i : S_.Idx) (u w : S2x1x1.Idx → EReal) (hu : V (Proc.devRef .tc main_v14_1) = u) (hw : V (Proc.devRef .tc main_v14_2) = w) :
    StableHlo.after (hostOps3 (F := Ideal)) V (Proc.devRef .tc main_v19) i
      = Ideal.div (∑ t : Fin 2, u (ix3 t 0 0)) (Ideal.ofBits FTy.f32 1132462080#32)
        + Ideal.div (∑ t : Fin 2, w (ix3 t 0 0)) (Ideal.ofBits FTy.f32 1233125376#32) := by
  after_reads_simp
  rw [hu, hw]
  have e (f : S2x1x1.Idx → EReal) : ∑ t : Fin 2, ∑ a : Fin 1, ∑ b : Fin 1, f (ix3 t a b) = ∑ t : Fin 2, f (ix3 t 0 0) := by
    refine Finset.sum_congr rfl fun t _ => ?_
    rw [Fin.sum_univ_one, Fin.sum_univ_one]
  pointwise []
  exact congrArg₂ (· + ·) (congrArg (Ideal.div · _) (e u)) (congrArg (Ideal.div · _) (e w))

end host

variable (m : (ℓ : Loc nD τ sig) → Buf (Elt Ideal) ℓ) (ρ : Dev nD → PrngReg) (c : Dev nD)

/-! The arguments. -/
def in0 : Vec Ideal S256x512x8x8 .f32 := m ((c.tc : Thread nD τ).loc main_arg0)
def in1 : Vec Ideal S256x512x8x8 .f32 := m ((c.tc : Thread nD τ).loc main_arg1)
def in2 : Vec Ideal S4096x16384 .f32 := m ((c.tc : Thread nD τ).loc main_arg2)
def in3 : Vec Ideal S4096 .f32 := m ((c.tc : Thread nD τ).loc main_arg3)
def in4 : Vec Ideal S1000x4096 .f32 := m ((c.tc : Thread nD τ).loc main_arg4)
def in5 : Vec Ideal S1000 .f32 := m ((c.tc : Thread nD τ).loc main_arg5)
def in6 : IVec S256x512 32 := m ((c.tc : Thread nD τ).loc main_arg6)
def in7 : IVec S256x512 32 := m ((c.tc : Thread nD τ).loc main_arg7)
def in8 : IVec S256 32 := m ((c.tc : Thread nD τ).loc main_arg8)

theorem rows_lt {r : Fin 256} : (⟨r.val / 8 * 8 + r.val % 8, by omega⟩ : Fin 256) = r := Fin.ext (by
  show r.val / 8 * 8 + r.val % 8 = r.val
  omega)

theorem pool0 (r : Fin 256) (j : Fin 512) : poolAt (V1 m ρ c main_v1) r j = meanAt (in0 m c) r j := by
  unfold poolAt meanAt
  rw [← sum_64 (fun p q => in0 m c (ix4 r j p q)), ← mean_eq]
  exact congrArg (· * _) (Finset.sum_congr rfl fun p _ => host0_v1 (W0 m ρ c) r p j)
theorem pool1 (r : Fin 256) (j : Fin 512) : poolAt (V1 m ρ c main_v3) r j = meanAt (in1 m c) r j := by
  unfold poolAt meanAt
  rw [← sum_64 (fun p q => in1 m c (ix4 r j p q)), ← mean_eq]
  exact congrArg (· * _) (Finset.sum_congr rfl fun p _ => host0_v3 (W0 m ρ c) r p j)
theorem words0 (r : Fin 256) (j : Fin 512) : wordsAt (V1 m ρ c main_v4) r j = in6 m c (ix2 r j) :=
  (host0_v4 (W0 m ρ c) _ _ j).trans (congrArg (fun z => in6 m c (ix2 z j)) rows_lt)
theorem words1 (r : Fin 256) (j : Fin 512) : wordsAt (V1 m ρ c main_v5) r j = in7 m c (ix2 r j) :=
  (host0_v5 (W0 m ρ c) _ _ j).trans (congrArg (fun z => in7 m c (ix2 z j)) rows_lt)

section ranges
variable (h6 : ∀ b j, (in6 m c (ix2 b j)).toNat < 2 ^ 31) (h7 : ∀ b j, (in7 m c (ix2 b j)).toNat < 2 ^ 31)
  (h8 : ∀ b, (in8 m c (ix1 b)).toNat < 1000)

include h6 in
/-- The first table the kernel builds is the one the reference sets its means into. -/
theorem table0_eq (b : Fin 256) (k : Fin 16384) :
    tableIn (V3 m ρ) c (ix2 b k) = val_main_v20 (F := Ideal) (in0 m c) (in6 m c) (ix2 b k) := by
  refine (host1_v7 (W2 m ρ c) b k).trans ?_
  have e : W2 m ρ c (Proc.devRef .tc main_v6_0) = table0 (V1 m ρ) c := (W2_arr m ρ c 4).trans (final0_4 (V1 m ρ) c fun t b j => by
    refine lt_of_eq_of_lt (congrArg BitVec.toNat (host0_v4 (W0 m ρ c) t b j)) (h6 _ _))
  refine (congrFun e _).trans (Eq.trans ?_ (refTable0 _ _ h6 b k).symm)
  show scat (wordsAt (V1 m ρ c main_v4) b) (poolAt (V1 m ρ c main_v1) b) (k.val / 512 * 512 + k.val % 512) = _
  rw [show k.val / 512 * 512 + k.val % 512 = k.val by omega]
  exact congrArg₂ (fun w u => scat w u k.val) (funext (words0 m ρ c b)) (funext (pool0 m ρ c b))

include h7 in
theorem table1_eq (b : Fin 256) (k : Fin 4096) :
    targetIn (V5 m ρ) c (ix2 b k) = val_main_v41 (F := Ideal) (in1 m c) (in7 m c) (ix2 b k) := by
  have e5 : targetIn (V5 m ρ) c = W3 m ρ c (Proc.devRef .tc main_v8) :=
    (W5_of m ρ c main_v8 (by decide)).trans (W4_of m ρ c main_v8 (by decide +kernel))
  refine (congrFun e5 _).trans ((host1_v8 (W2 m ρ c) b k).trans ?_)
  have e : W2 m ρ c (Proc.devRef .tc main_v6_1) = table1 (V1 m ρ) c := (W2_arr m ρ c 5).trans (final0_5 (V1 m ρ) c fun t b j => by
    refine lt_of_eq_of_lt (congrArg BitVec.toNat (host0_v5 (W0 m ρ c) t b j)) (h7 _ _))
  refine (congrFun e _).trans (Eq.trans ?_ (refTable1 _ _ h7 b k).symm)
  show scat (wordsAt (V1 m ρ c main_v5) b) (poolAt (V1 m ρ c main_v3) b) (k.val / 128 * 128 + k.val % 128) = _
  rw [show k.val / 128 * 128 + k.val % 128 = k.val by omega]
  exact congrArg₂ (fun w u => scat w u k.val) (funext (words1 m ρ c b)) (funext (pool1 m ρ c b))

include h6 in
theorem hidden_eq (r : Fin 256) (q : Fin 4096) :
    hiddenIn (V5 m ρ) c (ix2 r q) = val_main_v52 (F := Ideal) (in0 m c) (in2 m c) (in3 m c) (in6 m c) (ix2 r q) := by
  have e5 : hiddenIn (V5 m ρ) c = hidden (V3 m ρ) c :=
    (W5_of m ρ c main_v10 (by decide)).trans ((W4_arr m ρ c 3).trans (final1_3 (V3 m ρ) c))
  refine (congrFun e5 _).trans ((hidden_apply (V3 m ρ) c r q).trans (Eq.trans ?_ (refHidden _ _ _ _ r q).symm))
  have ew : weightIn (V3 m ρ) c = in2 m c := W3_args m ρ c main_arg2 (by decide)
  have eb : biasIn (V3 m ρ) c (ix2 0 q) = in3 m c (ix1 q) :=
    (host1_v9 (W2 m ρ c) q).trans (congrFun (W2_args m ρ c main_arg3 (by decide)) (ix1 q))
  rw [ew, eb]
  refine congrArg (fun z => Ideal.logistic (z + in3 m c (ix1 q))) (Finset.sum_congr rfl fun k _ => ?_)
  exact congrArg (· * in2 m c (ix2 q k)) (table0_eq m ρ c h6 r k)

include h6 in
/-- Row `r`'s class probabilities. -/
theorem probs_eq (r : Fin 256) (j : Fin 1000) :
    probRow (V5 m ρ) c r j
      = val_main_v68 (F := Ideal) (in0 m c) (in2 m c) (in3 m c) (in4 m c) (in5 m c) (in6 m c) (ix2 r j) := by
  have ew : classIn (V5 m ρ) c = in4 m c := W5_args m ρ c main_arg4 (by decide)
  have eb : offsetIn (V5 m ρ) c (ix2 0 j) = in5 m c (ix1 j) :=
    (host2_v13 (W4 m ρ c) j).trans (congrFun (W4_args m ρ c main_arg5 (by decide)) (ix1 j))
  refine Eq.trans ?_ (refProb _ _ _ _ _ _ r j).symm
  unfold probRow
  rw [ew, eb]
  exact congrArg (fun h => probAt h (fun k => in4 m c (ix2 j k)) (in5 m c (ix1 j))) (funext fun k => hidden_eq m ρ c h6 r k)

include h6 h8 in
theorem ce_eq (r : Fin 256) :
    rowCe (probRow (V5 m ρ) c r) (labelIn (V5 m ρ) c (ix2 r 0))
      = val_main_v80 (F := Ideal) (in0 m c) (in2 m c) (in3 m c) (in4 m c) (in5 m c) (in6 m c) (ix1 r)
        - val_main_v71 (F := Ideal) (in0 m c) (in2 m c) (in3 m c) (in4 m c) (in5 m c) (in6 m c) (in8 m c) (ix1 r) := by
  have el : labelIn (V5 m ρ) c (ix2 r 0) = in8 m c (ix1 r) :=
    (host2_v12 (W4 m ρ c) r 0).trans (congrFun (W4_args m ρ c main_arg8 (by decide)) (ix1 r))
  unfold rowCe
  rw [el, pick_eq _ _ (h8 r), refLse, refPick _ _ _ _ _ _ _ r (h8 r), probs_eq m ρ c h6 r,
    show probRow (V5 m ρ) c r = fun j => val_main_v68 (F := Ideal) (in0 m c) (in2 m c) (in3 m c) (in4 m c) (in5 m c) (in6 m c) (ix2 r j) from
      funext (probs_eq m ρ c h6 r)]

include h6 h7 in
theorem be_eq (r : Fin 256) :
    rowBe (fun k => hiddenIn (V5 m ρ) c (ix2 r k)) (fun k => targetIn (V5 m ρ) c (ix2 r k))
      = ∑ k : Fin 4096, val_main_v55 (F := Ideal) (in0 m c) (in1 m c) (in2 m c) (in3 m c) (in6 m c) (in7 m c) (ix2 r k) := by
  unfold rowBe
  refine Finset.sum_congr rfl fun k _ => ?_
  beta_reduce
  rw [refTerm, hidden_eq m ρ c h6, table1_eq m ρ c h7]
  obtain ⟨x, hx, e⟩ := logistic_real ((∑ q : Fin 16384, val_main_v20 (F := Ideal) (in0 m c) (in6 m c) (ix2 r q) * in2 m c (ix2 k q)) + in3 m c (ix1 k))
  have ev : val_main_v52 (F := Ideal) (in0 m c) (in2 m c) (in3 m c) (in6 m c) (ix2 r k) = (x : EReal) := (refHidden _ _ _ _ r k).trans e
  rw [ev, show smooth (x : EReal) = Ideal.log1p (Ideal.exp (x : EReal)) from smooth_eq hx]

include h6 in
/-- The first result. -/
theorem result0 : W7 m ρ c (Proc.devRef .tc main_v14_0)
    = val_main_v68 (F := Ideal) (in0 m c) (in2 m c) (in3 m c) (in4 m c) (in5 m c) (in6 m c) := by
  refine (W7_of m ρ c main_v14_0 (by decide)).trans ((W6_arr m ρ c 5).trans ((final2_5 (V5 m ρ) c).trans ?_))
  funext y
  obtain ⟨r, j, rfl⟩ : ∃ (r : Fin 256) (j : Fin 1000), y = ix2 r j := ⟨y 0, y 1, by idx_vars y⟩
  exact probs_eq m ρ c h6 r j

include h6 h7 h8 in
/-- The second result. -/
theorem result1 : W7 m ρ c (Proc.devRef .tc main_v19)
    = val_main_v84 (F := Ideal) (in0 m c) (in1 m c) (in2 m c) (in3 m c) (in4 m c) (in5 m c) (in6 m c) (in7 m c) (in8 m c) := by
  funext i
  refine (host3_v19 (W6 m ρ c) i (ceHalf (V5 m ρ) c) (beHalf (V5 m ρ) c) ((W6_arr m ρ c 6).trans (final2_6 (V5 m ρ) c))
    ((W6_arr m ρ c 7).trans (final2_7 (V5 m ρ) c))).trans (Eq.trans ?_ (refLoss _ _ _ _ _ _ _ _ _ i).symm)
  rw [refMean]
  refine congrArg₂ (· + ·) (congrArg (Ideal.div · _) ?_) (congrArg (Ideal.div · _) ?_)
  · refine Eq.trans (sum_halves fun r => rowCe (probRow (V5 m ρ) c r) (labelIn (V5 m ρ) c (ix2 r 0))) ?_
    exact Finset.sum_congr rfl fun r _ => ce_eq m ρ c h6 h8 r
  · refine Eq.trans (sum_halves fun r => rowBe (fun k => hiddenIn (V5 m ρ) c (ix2 r k)) (fun k => targetIn (V5 m ρ) c (ix2 r k))) ?_
    exact Finset.sum_congr rfl fun r _ => be_eq m ρ c h6 h7 r

end ranges

end Cert.Value

end
-- ==== Proof.Value.Pre.lean ====
/- The precondition, read: every index and every label is a natural number below its bound. -/
module

public import proofs.«01_k».proof.Defs
public import Idealize.ShloMosaic.Lib.WordCmp
public import Idealize.ShloMosaic.Lib.StableHlo.Predicate
public import Idealize.ShloMosaic.Lib.Pointwise

@[expose] public section

set_option maxRecDepth 16384

noncomputable section

namespace Cert.Value

open Idealize.ShloMosaic

theorem preFacts : Cert.Pre_indices_in_range.Facts where
  bcast_S_S256x512 := by decide
  bcast_S_S256 := by decide
  bcast_S256_S256x1_0 := by decide
  bcast_S256x1_S256x512_0_1 := by decide

instance : Cert.Pre_indices_in_range.Facts := preFacts

theorem andi_both {a b : BitVec 1} (h : IntOp.andi a b = 1#1) : a = 1#1 ∧ b = 1#1 := by
  revert h
  decide +revert

/-- A word compared with both ends of a range is a natural number in it. -/
theorem lt_of_cmpi {x : BitVec 32} {k : ℕ} (hk : k < 2 ^ 31) (h0 : IntOp.cmpi .sge x 0#32 = 1#1) (h1 : IntOp.cmpi .slt x (BitVec.ofNat 32 k) = 1#1) :
    x.toNat < k := by
  rw [WordCmp.cmpi_sge_zero, StableHlo.Predicate.ofBool_eq_one_iff, decide_eq_true_eq] at h0
  rw [StableHlo.Predicate.slt_iff_toNat h0 (by rw [BitVec.toNat_ofNat]; omega), BitVec.toNat_ofNat] at h1
  omega

section
open Cert.Pre_indices_in_range
variable (x0 x1 : FVec Ideal S256x512x8x8 .f32) (x2 : FVec Ideal S4096x16384 .f32) (x3 : FVec Ideal S4096 .f32)
  (x4 : FVec Ideal S1000x4096 .f32) (x5 : FVec Ideal S1000 .f32) (x6 x7 : IVec S256x512 32) (x8 : IVec S256 32)

theorem pre_apply (b : Fin 256) (j : Fin 512) :
    fn (F := Ideal) x0 x1 x2 x3 x4 x5 x6 x7 x8 (ix2 b j)
      = IntOp.andi
          (IntOp.andi
            (IntOp.andi (IntOp.andi (IntOp.cmpi .sge (x6 (ix2 b j)) 0#32) (IntOp.cmpi .slt (x6 (ix2 b j)) 16384#32))
              (IntOp.cmpi .sge (x7 (ix2 b j)) 0#32))
            (IntOp.cmpi .slt (x7 (ix2 b j)) 4096#32))
          (IntOp.andi (IntOp.cmpi .sge (x8 (ix1 b)) 0#32) (IntOp.cmpi .slt (x8 (ix1 b)) 1000#32)) := by
  unfold fn fn_part1
  pointwise []

theorem pre_ranges (h : fn (F := Ideal) x0 x1 x2 x3 x4 x5 x6 x7 x8 = fun _ => 1#1) (b : Fin 256) (j : Fin 512) :
    (x6 (ix2 b j)).toNat < 16384 ∧ (x7 (ix2 b j)).toNat < 4096 ∧ (x8 (ix1 b)).toNat < 1000 := by
  have e := (pre_apply x0 x1 x2 x3 x4 x5 x6 x7 x8 b j).symm.trans (congrFun h (ix2 b j))
  obtain ⟨e, e8⟩ := andi_both e
  obtain ⟨e, e7'⟩ := andi_both e
  obtain ⟨e, e7⟩ := andi_both e
  obtain ⟨e6, e6'⟩ := andi_both e
  obtain ⟨e8, e8'⟩ := andi_both e8
  exact ⟨lt_of_cmpi (by decide) e6 e6', lt_of_cmpi (by decide) e7 e7', lt_of_cmpi (by decide) e8 e8'⟩
end

end Cert.Value

end
-- ==== Proof.Value.Agree.lean ====
/- The two runs agree: with every index and label in its range both leave the same class probabilities and the same loss. -/
module

public import proofs.«01_k».proof.Defs
public import proofs.«01_k».proof.Proof.Gen.ReferenceIdeal.Run
public import proofs.«01_k».proof.Proof.Gen.ReferenceIdeal.Read
public import proofs.«01_k».proof.Proof.Run.Segments
public import proofs.«01_k».proof.Proof.Value.Kernel
public import proofs.«01_k».proof.Proof.Value.Pre

@[expose] public section

set_option maxRecDepth 16384

noncomputable section

namespace Cert.Value

open Idealize.ShloMosaic Idealize.ShloMosaic.TcCoe Idealize.SL.Sem
open Cert.KernelIdeal Cert.KernelIdeal.Run
open Cert.ReferenceIdeal.Read

theorem agree : @Cert.algebraic_KernelIdeal_ReferenceIdeal_pre_indices_in_range Cert.KernelIdeal.Gen.facts Cert.ReferenceIdeal.Gen.facts preFacts := by
  intro m g m' g' hpre hargs
  have h6 (c : Dev nD) : ∀ b j, (in6 m c (ix2 b j)).toNat < 2 ^ 31 := fun b j =>
    Nat.lt_trans (pre_ranges _ _ _ _ _ _ _ _ _ (hpre c) b j).1 (by decide)
  have h7 (c : Dev nD) : ∀ b j, (in7 m c (ix2 b j)).toNat < 2 ^ 31 := fun b j =>
    Nat.lt_trans (pre_ranges _ _ _ _ _ _ _ _ _ (hpre c) b j).2.1 (by decide)
  have h8 (c : Dev nD) : ∀ b, (in8 m c (ix1 b)).toNat < 1000 := fun b => (pre_ranges _ _ _ _ _ _ _ _ _ (hpre c) b 0).2.2
  refine ⟨fun c => W7 m g c (Proc.devRef .tc main_v14_0), fun c => W7 m g c (Proc.devRef .tc main_v19), ?_, ?_⟩
  · refine (θ_run _ _ _).mono (fun r h c => ?_) (run (F := Ideal) m g)
    have hmem := fun (a : Ref sig .tc) ha => h.1 c (Proc.devRef .tc a) (mem_uc a ha)
    exact ⟨hmem main_v14_0 (by decide), hmem main_v19 (by decide),
      (hmem main_arg0 (by decide)).trans (W7_args m g c main_arg0 (by decide)),
      (hmem main_arg1 (by decide)).trans (W7_args m g c main_arg1 (by decide)),
      (hmem main_arg2 (by decide)).trans (W7_args m g c main_arg2 (by decide)),
      (hmem main_arg3 (by decide)).trans (W7_args m g c main_arg3 (by decide)),
      (hmem main_arg4 (by decide)).trans (W7_args m g c main_arg4 (by decide)),
      (hmem main_arg5 (by decide)).trans (W7_args m g c main_arg5 (by decide)),
      (hmem main_arg6 (by decide)).trans (W7_args m g c main_arg6 (by decide)),
      (hmem main_arg7 (by decide)).trans (W7_args m g c main_arg7 (by decide)),
      (hmem main_arg8 (by decide)).trans (W7_args m g c main_arg8 (by decide))⟩
  · refine (θ_run _ _ _).mono (fun r h c => ?_) (Cert.ReferenceIdeal.Value.run (F := Ideal) m' g')
    obtain ⟨a0, a1, a2, a3, a4, a5, a6, a7, a8⟩ := hargs c
    obtain ⟨r0, r1, rest⟩ := h c
    refine ⟨r0.trans ?_, r1.trans ?_, rest⟩
    · refine (val_main_v68_eq _ _ _ _ _ _).trans ?_
      rw [a0, a2, a3, a4, a5, a6]
      exact (result0 m g c (h6 c)).symm
    · refine (val_main_v84_eq m' c).trans ?_
      rw [a0, a1, a2, a3, a4, a5, a6, a7, a8]
      exact (result1 m g c (h6 c) (h7 c) (h8 c)).symm

end Cert.Value

end
-- ==== Proof.lean ====
/- The proof of the claim. -/
module

public import proofs.«01_k».proof.Defs
public import proofs.«01_k».proof.Proof.Run.Frames
public import proofs.«01_k».proof.Proof.Value.Agree

@[expose] public section

noncomputable section

namespace Cert.Proof

theorem claim : Cert.Claim := ⟨Cert.Kernel.Gen.facts, Cert.KernelIdeal.Gen.facts, Cert.ReferenceIdeal.Gen.facts, Cert.Value.preFacts,
  Cert.Frames.kernel, Cert.Frames.kernelIdeal, fun m g _ => Cert.Frames.kernelIdeal m g trivial,
  Cert.Frames.referenceIdeal, fun m g _ => Cert.Frames.referenceIdeal m g trivial, trivial, Cert.Value.agree⟩

end Cert.Proof

end
